-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boost_is_zero_or_one [hPre_boost_is_zero_or_one : Cert.Pre_boost_is_zero_or_one.Facts] (m : (ℓ : Loc Cert.KernelIdeal.nD Cert.KernelIdeal.τ Cert.KernelIdeal.sig) → Buf (Elt Ideal) ℓ) : Prop :=
  ∀ c : Dev Cert.KernelIdeal.nD,
    (Cert.Pre_boost_is_zero_or_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boost_is_zero_or_one [hPre_boost_is_zero_or_one : Cert.Pre_boost_is_zero_or_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boost_is_zero_or_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_boost_is_zero_or_one [hKernelIdeal : Cert.KernelIdeal.Facts] [hPre_boost_is_zero_or_one : Cert.Pre_boost_is_zero_or_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boost_is_zero_or_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_boost_is_zero_or_one [hReferenceIdeal : Cert.ReferenceIdeal.Facts] [hPre_boost_is_zero_or_one : Cert.Pre_boost_is_zero_or_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boost_is_zero_or_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_boost_is_zero_or_one [hKernelIdeal : Cert.KernelIdeal.Facts] [hReferenceIdeal : Cert.ReferenceIdeal.Facts] [hPre_boost_is_zero_or_one : Cert.Pre_boost_is_zero_or_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boost_is_zero_or_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_cst_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_boost_is_zero_or_one : Cert.Pre_boost_is_zero_or_one.Facts),
    quiescent_Kernel (hKernel := hKernel)
    ∧ quiescent_KernelIdeal (hKernelIdeal := hKernelIdeal)
    ∧ quiescent_KernelIdeal_pre_boost_is_zero_or_one (hKernelIdeal := hKernelIdeal) (hPre_boost_is_zero_or_one := hPre_boost_is_zero_or_one)
    ∧ quiescent_ReferenceIdeal (hReferenceIdeal := hReferenceIdeal)
    ∧ quiescent_ReferenceIdeal_pre_boost_is_zero_or_one (hReferenceIdeal := hReferenceIdeal) (hPre_boost_is_zero_or_one := hPre_boost_is_zero_or_one)
    ∧ preserves_Kernel_KernelIdeal
    ∧ algebraic_KernelIdeal_ReferenceIdeal_pre_boost_is_zero_or_one (hKernelIdeal := hKernelIdeal) (hReferenceIdeal := hReferenceIdeal) (hPre_boost_is_zero_or_one := hPre_boost_is_zero_or_one)
-- ==== Pre_boost_is_zero_or_one.lean ====
abbrev S16384 : Shape := ⟨1, ![16384]⟩
abbrev S2048x16384 : Shape := ⟨2, ![2048, 16384]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S16384 32) (main_arg1 : FVec F S2048x16384 .f32) (main_arg2 : FVec F S2048 .f32) : IVec S_ 1 :=
  let main_cst : FVec F S_ .f32 := constant S_ .f32 0x00000000#32
  let main_v0 : FVec F S2048 .f32 := broadcastInDim S2048 ![] bcast_S_S2048 main_cst
  let main_v1 : IVec S2048 1 := cmpf .oeq main_arg2 main_v0
  let main_cst_0 : FVec F S_ .f32 := constant S_ .f32 0x3F800000#32
  let main_v2 : FVec F S2048 .f32 := broadcastInDim S2048 ![] bcast_S_S2048 main_cst_0
  let main_v3 : IVec S2048 1 := cmpf .oeq main_arg2 main_v2
  let main_v4 : IVec S2048 1 := ori main_v1 main_v3
  let main_c : IVec S_ 1 := constantI S_ 1 1#1
  let main_v5 : IVec S_ 1 := (fun x v => Host.reduce IntOp.andi x v reducesTo_S2048_S_d0 h_S_) main_v4 main_c
  main_v5
-- ==== Kernel.lean ====
abbrev S16384 : Shape := ⟨1, ![16384]⟩
abbrev S2048x16384 : Shape := ⟨2, ![2048, 16384]⟩
abbrev S2048 : Shape := ⟨1, ![2048]⟩
abbrev S1x16384 : Shape := ⟨2, ![1, 16384]⟩
abbrev S2048x1 : Shape := ⟨2, ![2048, 1]⟩
abbrev S2048x32 : Shape := ⟨2, ![2048, 32]⟩
abbrev S65536 : Shape := ⟨1, ![65536]⟩
abbrev S4x64x16384 : Shape := ⟨3, ![4, 64, 16384]⟩
abbrev S4 : Shape := ⟨1, ![4]⟩
abbrev S1 : Shape := ⟨1, ![1]⟩
abbrev S_ : Shape := ⟨0, ![]⟩
abbrev S1x64x16384 : Shape := ⟨3, ![1, 64, 16384]⟩
abbrev S64x16384 : Shape := ⟨2, ![64, 16384]⟩
abbrev S64x1 : Shape := ⟨2, ![64, 1]⟩
abbrev S1x2048x1 : Shape := ⟨3, ![1, 2048, 1]⟩
abbrev S1x1x1 : Shape := ⟨3, ![1, 1, 1]⟩

abbrev nBuf : Space → Nat
  | .hbm => 8
  | .vmem => 5
  | .smem => 0
  | _ => 0

abbrev bufTy : (tb : Table) → Fin (tcTables nBuf tb) → BufTy
  | .hbm, ⟨0, _⟩ => ⟨S16384, .i32⟩
  | .hbm, ⟨1, _⟩ => ⟨S2048x16384, .f32⟩
  | .hbm, ⟨2, _⟩ => ⟨S2048, .f32⟩
  | .hbm, ⟨3, _⟩ => ⟨S1x16384, .i32⟩
  | .hbm, ⟨4, _⟩ => ⟨S2048x1, .f32⟩
  | .hbm, ⟨5, _⟩ => ⟨S2048x32, .f32⟩
  | .hbm, ⟨6, _⟩ => ⟨S65536, .f32⟩
  | .hbm, ⟨7, _⟩ => ⟨S_, .f32⟩
  | .local _ .vmem, ⟨0, _⟩ => ⟨S1x16384, .i32⟩
  | .local _ .vmem, ⟨1, _⟩ => ⟨S2048x1, .f32⟩
  | .local _ .vmem, ⟨2, _⟩ => ⟨S2048x32, .f32⟩
  | .local _ .vmem, ⟨3, _⟩ => ⟨S4x64x16384, .f32⟩
  | .local _ .vmem, ⟨4, _⟩ => ⟨S2048x1, .i32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_19 : BitVec 32 := 0#32
  let c8_i32 : BitVec 32 := 8#32
  let v26 : BitVec 32 := Scalar.addi c0_i32_19 c8_i32
  let c1_i32_20 : BitVec 32 := 1#32
  ⟨c0_i32_19, v26, c1_i32_20⟩
def k0_off1 (k0_t1 : Fin k0_t1_loop.trips) (c0_i32_29 : BitVec 32) : Fin 2 → Nat :=
  let c0_i32_19 : BitVec 32 := 0#32
  let c1_i32_20 : BitVec 32 := 1#32
  let arg7 : BitVec 32 := Scf.iv c0_i32_19 c1_i32_20 k0_t1
  let c4_i32 : BitVec 32 := 4#32
  let v37 : BitVec 32 := Scalar.muli arg7 c4_i32
  let v38 : BitVec 32 := Scalar.addi v37 c0_i32_29
  let c64_i32_30 : BitVec 32 := 64#32
  let v39 : BitVec 32 := Scalar.muli v38 c64_i32_30
  let c0_i32_35 : BitVec 32 := 0#32
  ![v39.toNat, 0]
def k0_off2 (k0_t1 : Fin k0_t1_loop.trips) (c0_i32_29 : BitVec 32) : Fin 2 → Nat :=
  let c0_i32_19 : BitVec 32 := 0#32
  let c1_i32_20 : BitVec 32 := 1#32
  let arg7 : BitVec 32 := Scf.iv c0_i32_19 c1_i32_20 k0_t1
  let c4_i32 : BitVec 32 := 4#32
  let v37 : BitVec 32 := Scalar.muli arg7 c4_i32
  let v38 : BitVec 32 := Scalar.addi v37 c0_i32_29
  let c64_i32_40 : BitVec 32 := 64#32
  let v52 : BitVec 32 := Scalar.muli v38 c64_i32_40
  let v53 : Index := Scalar.indexCast v52
  let c0_41 : Index := 0#32
  ![v53.toNat, 0]
def k0_cond1 (k0_t1 : Fin k0_t1_loop.trips) : BitVec 1 :=
  let c0_i32_19 : BitVec 32 := 0#32
  let c1_i32_20 : BitVec 32 := 1#32
  let arg7 : BitVec 32 := Scf.iv c0_i32_19 c1_i32_20 k0_t1
  let c4_i32 : BitVec 32 := 4#32
  let v37 : BitVec 32 := Scalar.muli arg7 c4_i32
  let c0_i32_29 : BitVec 32 := 0#32
  let v38 : BitVec 32 := Scalar.addi v37 c0_i32_29
  let c4_i32_45 : BitVec 32 := 4#32
  let v72 : BitVec 32 := Scalar.addi v38 c4_i32_45
  let c32_i32 : BitVec 32 := 32#32
  let v73 : BitVec 1 := Scalar.cmpi .slt v72 c32_i32
  let v74 : BitVec 32 := Scalar.extui v73
  let c0_i32_46 : BitVec 32 := 0#32
  let v75 : BitVec 1 := Scalar.cmpi .ne v74 c0_i32_46
  v75

def k0_off3 (k0_t1 : Fin k0_t1_loop.trips) : Fin 2 → Nat :=
  let c0_i32_19 : BitVec 32 := 0#32
  let c1_i32_20 : BitVec 32 := 1#32
  let arg7 : BitVec 32 := Scf.iv c0_i32_19 c1_i32_20 k0_t1
  let c4_i32 : BitVec 32 := 4#32
  let v37 : BitVec 32 := Scalar.muli arg7 c4_i32
  let c0_i32_29 : BitVec 32 := 0#32
  let v38 : BitVec 32 := Scalar.addi v37 c0_i32_29
  let c4_i32_113 : BitVec 32 := 4#32
  let v193 : BitVec 32 := Scalar.addi v38 c4_i32_113
  let c64_i32_114 : BitVec 32 := 64#32
  let v194 : BitVec 32 := Scalar.muli v193 c64_i32_114
  let c0_i32_119 : BitVec 32 := 0#32
  ![v194.toNat, 0]
def k0_cond2 (k0_t1 : Fin k0_t1_loop.trips) : BitVec 1 :=
  let c0_i32_19 : BitVec 32 := 0#32
  let c1_i32_20 : BitVec 32 := 1#32
  let arg7 : BitVec 32 := Scf.iv c0_i32_19 c1_i32_20 k0_t1
  let c4_i32_47 : BitVec 32 := 4#32
  let v76 : BitVec 32 := Scalar.muli arg7 c4_i32_47
  let c1_i32_48 : BitVec 32 := 1#32
  let v77 : BitVec 32 := Scalar.addi v76 c1_i32_48
  let c4_i32_66 : BitVec 32 := 4#32
  let v111 : BitVec 32 := Scalar.addi v77 c4_i32_66
  let c32_i32_67 : BitVec 32 := 32#32
  let v112 : BitVec 1 := Scalar.cmpi .slt v111 c32_i32_67
  let v113 : BitVec 32 := Scalar.extui v112
  let c0_i32_68 : BitVec 32 := 0#32
  let v114 : BitVec 1 := Scalar.cmpi .ne v113 c0_i32_68
  v114

def k0_off4 (k0_t1 : Fin k0_t1_loop.trips) : Fin 2 → Nat :=
  let c0_i32_19 : BitVec 32 := 0#32
  let c1_i32_20 : BitVec 32 := 1#32
  let arg7 : BitVec 32 := Scf.iv c0_i32_19 c1_i32_20 k0_t1
  let c4_i32_47 : BitVec 32 := 4#32
  let v76 : BitVec 32 := Scalar.muli arg7 c4_i32_47
  let c1_i32_48 : BitVec 32 := 1#32
  let v77 : BitVec 32 := Scalar.addi v76 c1_i32_48
  let c4_i32_113 : BitVec 32 := 4#32
  let v193 : BitVec 32 := Scalar.addi v77 c4_i32_113
  let c64_i32_114 : BitVec 32 := 64#32
  let v194 : BitVec 32 := Scalar.muli v193 c64_i32_114
  let c0_i32_119 : BitVec 32 := 0#32
  ![v194.toNat, 0]
def k0_cond3 (k0_t1 : Fin k0_t1_loop.trips) : BitVec 1 :=
  let c0_i32_19 : BitVec 32 := 0#32
  let c1_i32_20 : BitVec 32 := 1#32
  let arg7 : BitVec 32 := Scf.iv c0_i32_19 c1_i32_20 k0_t1
  let c4_i32_69 : BitVec 32 := 4#32
  let v115 : BitVec 32 := Scalar.muli arg7 c4_i32_69
  let c2_i32_70 : BitVec 32 := 2#32
  let v116 : BitVec 32 := Scalar.addi v115 c2_i32_70
  let c4_i32_88 : BitVec 32 := 4#32
  let v150 : BitVec 32 := Scalar.addi v116 c4_i32_88
  let c32_i32_89 : BitVec 32 := 32#32
  let v151 : BitVec 1 := Scalar.cmpi .slt v150 c32_i32_89
  let v152 : BitVec 32 := Scalar.extui v151
  let c0_i32_90 : BitVec 32 := 0#32
  let v153 : BitVec 1 := Scalar.cmpi .ne v152 c0_i32_90
  v153

def k0_off5 (k0_t1 : Fin k0_t1_loop.trips) : Fin 2 → Nat :=
  let c0_i32_19 : BitVec 32 := 0#32
  let c1_i32_20 : BitVec 32 := 1#32
  let arg7 : BitVec 32 := Scf.iv c0_i32_19 c1_i32_20 k0_t1
  let c4_i32_69 : BitVec 32 := 4#32
  let v115 : BitVec 32 := Scalar.muli arg7 c4_i32_69
  let c2_i32_70 : BitVec 32 := 2#32
  let v116 : BitVec 32 := Scalar.addi v115 c2_i32_70
  let c4_i32_113 : BitVec 32 := 4#32
  let v193 : BitVec 32 := Scalar.addi v116 c4_i32_113
  let c64_i32_114 : BitVec 32 := 64#32
  let v194 : BitVec 32 := Scalar.muli v193 c64_i32_114
  let c0_i32_119 : BitVec 32 := 0#32
  ![v194.toNat, 0]
def k0_cond4 (k0_t1 : Fin k0_t1_loop.trips) : BitVec 1 :=
  let c0_i32_19 : BitVec 32 := 0#32
  let c1_i32_20 : BitVec 32 := 1#32
  let arg7 : BitVec 32 := Scf.iv c0_i32_19 c1_i32_20 k0_t1
  let c4_i32_91 : BitVec 32 := 4#32
  let v154 : BitVec 32 := Scalar.muli arg7 c4_i32_91
  let c3_i32_92 : BitVec 32 := 3#32
  let v155 : BitVec 32 := Scalar.addi v154 c3_i32_92
  let c4_i32_110 : BitVec 32 := 4#32
  let v189 : BitVec 32 := Scalar.addi v155 c4_i32_110
  let c32_i32_111 : BitVec 32 := 32#32
  let v190 : BitVec 1 := Scalar.cmpi .slt v189 c32_i32_111
  let v191 : BitVec 32 := Scalar.extui v190
  let c0_i32_112 : BitVec 32 := 0#32
  let v192 : BitVec 1 := Scalar.cmpi .ne v191 c0_i32_112
  v192

def k0_off6 (k0_t1 : Fin k0_t1_loop.trips) : Fin 2 → Nat :=
  let c0_i32_19 : BitVec 32 := 0#32
  let c1_i32_20 : BitVec 32 := 1#32
  let arg7 : BitVec 32 := Scf.iv c0_i32_19 c1_i32_20 k0_t1
  let c4_i32_91 : BitVec 32 := 4#32
  let v154 : BitVec 32 := Scalar.muli arg7 c4_i32_91
  let c3_i32_92 : BitVec 32 := 3#32
  let v155 : BitVec 32 := Scalar.addi v154 c3_i32_92
  let c4_i32_113 : BitVec 32 := 4#32
  let v193 : BitVec 32 := Scalar.addi v155 c4_i32_113
  let c64_i32_114 : BitVec 32 := 64#32
  let v194 : BitVec 32 := Scalar.muli v193 c64_i32_114
  let c0_i32_119 : BitVec 32 := 0#32
  ![v194.toNat, 0]
@[reducible] def k0_t2_loop : Scf.Loop 32 :=
  let c0_i32_25 : BitVec 32 := 0#32
  let c26_i32 : BitVec 32 := 26#32
  let v28 : BitVec 32 := Scalar.addi c0_i32_25 c26_i32
  let c1_i32_26 : BitVec 32 := 1#32
  ⟨c0_i32_25, v28, c1_i32_26⟩
abbrev stage0_0 : Fin 1 → Memref sig .tc .vmem S1x16384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384 : Shape := ⟨1, ![16384]⟩
abbrev S2048x16384 : Shape := ⟨2, ![2048, 16384]⟩
abbrev S2048 : Shape := ⟨1, ![2048]⟩
abbrev S_ : Shape := ⟨0, ![]⟩
abbrev S90 : Shape := ⟨1, ![90]⟩
abbrev S90x1 : Shape := ⟨2, ![90, 1]⟩
abbrev S2048x32 : Shape := ⟨2, ![2048, 32]⟩
abbrev S65536 : Shape := ⟨1, ![65536]⟩

abbrev nBuf : Space → Nat
  | .hbm => 31
  | .vmem => 0
  | .smem => 0
  | _ => 0

abbrev bufTy : (tb : Table) → Fin (tcTables nBuf tb) → BufTy
  | .hbm, ⟨0, _⟩ => ⟨S16384, .i32⟩
  | .hbm, ⟨1, _⟩ => ⟨S2048x16384, .f32⟩
  | .hbm, ⟨2, _⟩ => ⟨S2048, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S16384, .f32⟩
  | .hbm, ⟨7, _⟩ => ⟨S_, .f32⟩
  | .hbm, ⟨8, _⟩ => ⟨S2048x16384, .f32⟩
  | .hbm, ⟨9, _⟩ => ⟨S2048x16384, .i1⟩
  | .hbm, ⟨10, _⟩ => ⟨S2048x16384, .f32⟩
  | .hbm, ⟨11, _⟩ => ⟨S2048, .f32⟩
  | .hbm, ⟨12, _⟩ => ⟨S2048, .f32⟩
  | .hbm, ⟨13, _⟩ => ⟨S90, .f32⟩
  | .hbm, ⟨14, _⟩ => ⟨S90, .i32⟩
  | .hbm, ⟨15, _⟩ => ⟨S_, .f32⟩
  | .hbm, ⟨16, _⟩ => ⟨S2048, .f32⟩
  | .hbm, ⟨17, _⟩ => ⟨S_, .i32⟩
  | .hbm, ⟨18, _⟩ => ⟨S90, .i32⟩
  | .hbm, ⟨19, _⟩ => ⟨S90, .i1⟩
  | .hbm, ⟨20, _⟩ => ⟨S_, .i32⟩
  | .hbm, ⟨21, _⟩ => ⟨S90, .i32⟩
  | .hbm, ⟨22, _⟩ => ⟨S90, .i32⟩
  | .hbm, ⟨23, _⟩ => ⟨S90, .i32⟩
  | .hbm, ⟨24, _⟩ => ⟨S90x1, .i32⟩
  | .hbm, ⟨25, _⟩ => ⟨S_, .f32⟩
  | .hbm, ⟨26, _⟩ => ⟨S90, .f32⟩
  | .hbm, ⟨27, _⟩ => ⟨S2048, .f32⟩
  | .hbm, ⟨28, _⟩ => ⟨S2048x32, .f32⟩
  | .hbm, ⟨29, _⟩ => ⟨S65536, .f32⟩
  | .hbm, ⟨30, _⟩ => ⟨S_, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_values : Ref sig .tc := ⟨.hbm, 13, rfl⟩
abbrev main_indices : Ref sig .tc := ⟨.hbm, 14, rfl⟩
abbrev main_cst_0 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩

abbrev nD : Nat := 1
abbrev τ : Topo := Topo.v7x

variable {F : FTy → Type} [FloatOps F]
-- ==== Proof.IdealTrip.lean ====
/-
  One trip of the counted loop of the idealized kernel. The permanences lie in HBM as eight groups of four blocks of
  64 rows. Before trip `k` the four blocks of group `k` are on their way into the four slots of the buffer; the trip
  waits for each, turns it into 64 keys, and issues the block of group `k + 1` into the slot it has just read. The
  last trip issues nothing.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Transfers
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters that the kernel's own transfers use. -/
abbrev UU (nD : Nat) (τ : Topo) : Type := UR sig nD τ × Counters
local notation "𝕄" => MT nD τ sig Unit (Elt F) ℕ (UU nD τ) ℕ
/-- No loop of the program needs a variant. -/
abbrev 𝒱₀ : Variants := Variants.none

/-! ## Names for what the trip slices -/

/-- The permanences, left in HBM. -/
abbrev permM : Memref sig .tc .hbm S2048x16384 .f32 := Memref.whole main_arg1
/-- The buffer of four slots. -/
abbrev bufM : Memref sig .tc .vmem S4x64x16384 .f32 := Memref.whole cc0_scratch0

/-- Where a block of the permanences begins. -/
abbrev blkOff (g : Fin 8) (r : Fin 4) : Fin 2 → Nat := ![256 * g.val + 64 * r.val, 0]
/-- It lies inside the permanences. -/
theorem blkOff_inb (g : Fin 8) (r : Fin 4) : ∀ a, blkOff g r a + S64x16384.size a ≤ S2048x16384.size a := by
  have hg := g.isLt; have hr := r.isLt; intro a; fin_cases a
  · show 256 * g.val + 64 * r.val + 64 ≤ 2048; omega
  · show 0 + 16384 ≤ 16384; omega
/-- Where a slot begins. -/
abbrev slotOff (r : Fin 4) : Fin 3 → Nat := ![r.val, 0, 0]
/-- It lies inside the buffer. -/
theorem slotOff_inb (r : Fin 4) : ∀ a, slotOff r a + S1x64x16384.size a ≤ S4x64x16384.size a := by
  have hr := r.isLt; intro a; fin_cases a
  · show r.val + 1 ≤ 4; omega
  · show 0 + 64 ≤ 64; omega
  · show 0 + 16384 ≤ 16384; omega
/-- Where a slot's semaphore lies. -/
abbrev cellOff (r : Fin 4) : Fin 1 → Nat := ![r.val]
/-- It lies inside the array of semaphores. -/
theorem cellOff_inb (r : Fin 4) : ∀ a, cellOff r a + S1.size a ≤ S4.size a := by
  have hr := r.isLt; intro a; fin_cases a; show r.val + 1 ≤ 4; omega

/-- Block `r` of group `g` of the permanences: 64 rows. -/
def blk (g : Fin 8) (r : Fin 4) : Memref sig .tc .hbm S64x16384 .f32 :=
  permM.slice (Rect.unit (s := S2048x16384) (blkOff g r) S64x16384.size (blkOff_inb g r)) (fun _ => rfl)
/-- Slot `r` of the buffer. -/
def slot (r : Fin 4) : Memref sig .tc .vmem S64x16384 .f32 :=
  (bufM.slice (Rect.unit (s := S4x64x16384) (slotOff r) S1x64x16384.size (slotOff_inb r)) (fun _ => rfl)).squeeze S64x16384 squeezes_S1x64x16384_S64x16384
/-- The semaphore on which slot `r`'s transfers complete. -/
def cell (r : Fin 4) : DmaSems sig S_ :=
  (cc0_scratch2.slice (Rect.unit (s := S4) (cellOff r) S1.size (cellOff_inb r))).squeeze S_ squeezes_S1_S_

instance (r : Fin 4) : ClosedOff (slotOff r) := ⟨slotOff r, rfl⟩
instance (g : Fin 8) (r : Fin 4) : ClosedOff (blkOff g r) := ⟨blkOff g r, rfl⟩

section Names

/-- A semaphore taken at an equal offset is the slot's semaphore. -/
theorem cell_of_off {off : Fin 1 → Nat} {r : Fin 4} (e : off = cellOff r) (h) :
    (cc0_scratch2.slice (Rect.unit (s := S4) off S1.size h)).squeeze S_ squeezes_S1_S_ = cell r :=
  congrArg (fun A : DmaSems sig S1 => A.squeeze S_ squeezes_S1_S_) (SemArray.slice_unit_congr _ e _ _)
/-- A slot taken at an equal offset is the slot. -/
theorem slot_of_off {off : Fin 3 → Nat} {r : Fin 4} (e : off = slotOff r) (h hs) :
    (bufM.slice (Rect.unit (s := S4x64x16384) off S1x64x16384.size h) hs).squeeze S64x16384 squeezes_S1x64x16384_S64x16384 = slot r :=
  congrArg (fun M : Memref sig .tc .vmem S1x64x16384 .f32 => M.squeeze S64x16384 squeezes_S1x64x16384_S64x16384) (Memref.slice_unit_congr _ e _ _ _ _)
/-- A block taken at an equal offset is the block. -/
theorem blk_of_off {off : Fin 2 → Nat} {g : Fin 8} {r : Fin 4} (e : off = blkOff g r) (h hs) :
    permM.slice (Rect.unit (s := S2048x16384) off S64x16384.size h) hs = blk g r :=
  Memref.slice_unit_congr _ e _ _ _ (fun _ => rfl)

@[sl_canon] theorem cell_at0 (h) : (cc0_scratch2.slice (Rect.unit (s := S4) ![0] S1.size h)).squeeze S_ squeezes_S1_S_ = cell 0 := cell_of_off (by decide) _
@[sl_canon] theorem cell_at1 (h) : (cc0_scratch2.slice (Rect.unit (s := S4) ![1] S1.size h)).squeeze S_ squeezes_S1_S_ = cell 1 := cell_of_off (by decide) _
@[sl_canon] theorem cell_at2 (h) : (cc0_scratch2.slice (Rect.unit (s := S4) ![2] S1.size h)).squeeze S_ squeezes_S1_S_ = cell 2 := cell_of_off (by decide) _
@[sl_canon] theorem cell_at3 (h) : (cc0_scratch2.slice (Rect.unit (s := S4) ![3] S1.size h)).squeeze S_ squeezes_S1_S_ = cell 3 := cell_of_off (by decide) _
@[sl_canon] theorem slot_at0 (h hs) : (bufM.slice (Rect.unit (s := S4x64x16384) ![0, 0, 0] S1x64x16384.size h) hs).squeeze S64x16384 squeezes_S1x64x16384_S64x16384 = slot 0 := slot_of_off (by decide) _ _
@[sl_canon] theorem slot_at1 (h hs) : (bufM.slice (Rect.unit (s := S4x64x16384) ![1, 0, 0] S1x64x16384.size h) hs).squeeze S64x16384 squeezes_S1x64x16384_S64x16384 = slot 1 := slot_of_off (by decide) _ _
@[sl_canon] theorem slot_at2 (h hs) : (bufM.slice (Rect.unit (s := S4x64x16384) ![2, 0, 0] S1x64x16384.size h) hs).squeeze S64x16384 squeezes_S1x64x16384_S64x16384 = slot 2 := slot_of_off (by decide) _ _
@[sl_canon] theorem slot_at3 (h hs) : (bufM.slice (Rect.unit (s := S4x64x16384) ![3, 0, 0] S1x64x16384.size h) hs).squeeze S64x16384 squeezes_S1x64x16384_S64x16384 = slot 3 := slot_of_off (by decide) _ _
@[sl_canon] theorem blk_at0 (h hs) : permM.slice (Rect.unit (s := S2048x16384) ![0, 0] S64x16384.size h) hs = blk 0 0 := blk_of_off (by decide) _ _
@[sl_canon] theorem blk_at1 (h hs) : permM.slice (Rect.unit (s := S2048x16384) ![64, 0] S64x16384.size h) hs = blk 0 1 := blk_of_off (by decide) _ _
@[sl_canon] theorem blk_at2 (h hs) : permM.slice (Rect.unit (s := S2048x16384) ![128, 0] S64x16384.size h) hs = blk 0 2 := blk_of_off (by decide) _ _
@[sl_canon] theorem blk_at3 (h hs) : permM.slice (Rect.unit (s := S2048x16384) ![192, 0] S64x16384.size h) hs = blk 0 3 := blk_of_off (by decide) _ _

/-- The loop has eight trips. -/
theorem trips_eq : k0_t1_loop.trips = 8 := by decide

/-- The offset that a trip computes for a block. -/
theorem off_here (k : Fin k0_t1_loop.trips) (r : Fin 4) : k0_off1 k (BitVec.ofNat 32 r.val) = blkOff (Ring.bk 8 k.val) r := by
  rw [k0_off1_eq, blkOff, Ring.bk_val (Nat.lt_of_lt_of_eq k.isLt trips_eq)]

@[sl_canon] theorem blk_wait0 (k : Fin k0_t1_loop.trips) (h hs) : permM.slice (Rect.unit (s := S2048x16384) (k0_off1 k 0#32) S64x16384.size h) hs = blk (Ring.bk 8 k.val) 0 := blk_of_off (off_here k 0) _ _
@[sl_canon] theorem blk_wait1 (k : Fin k0_t1_loop.trips) (h hs) : permM.slice (Rect.unit (s := S2048x16384) (k0_off1 k 1#32) S64x16384.size h) hs = blk (Ring.bk 8 k.val) 1 := blk_of_off (off_here k 1) _ _
@[sl_canon] theorem blk_wait2 (k : Fin k0_t1_loop.trips) (h hs) : permM.slice (Rect.unit (s := S2048x16384) (k0_off1 k 2#32) S64x16384.size h) hs = blk (Ring.bk 8 k.val) 2 := blk_of_off (off_here k 2) _ _
@[sl_canon] theorem blk_wait3 (k : Fin k0_t1_loop.trips) (h hs) : permM.slice (Rect.unit (s := S2048x16384) (k0_off1 k 3#32) S64x16384.size h) hs = blk (Ring.bk 8 k.val) 3 := blk_of_off (off_here k 3) _ _

/-- An offset of the next group of blocks, in closed form. -/
theorem off_next {off : Fin 2 → Nat} {k n : ℕ} (r : Fin 4) (hk : k + 1 < 8) (e : off = ![n, 0]) (hn : n = 256 * k + 256 + 64 * r.val) :
    off = blkOff (Ring.bk 8 (k + 1)) r := by
  rw [e, hn, blkOff, Ring.bk_val hk]; congr 1

@[sl_canon] theorem blk_issue0 (k : Fin k0_t1_loop.trips) (hk : k.val + 1 < 8) (h hs) : permM.slice (Rect.unit (s := S2048x16384) (k0_off3 k) S64x16384.size h) hs = blk (Ring.bk 8 (k.val + 1)) 0 :=
  blk_of_off (off_next 0 hk (k0_off3_eq k) rfl) _ _
@[sl_canon] theorem blk_issue1 (k : Fin k0_t1_loop.trips) (hk : k.val + 1 < 8) (h hs) : permM.slice (Rect.unit (s := S2048x16384) (k0_off4 k) S64x16384.size h) hs = blk (Ring.bk 8 (k.val + 1)) 1 :=
  blk_of_off (off_next 1 hk (k0_off4_eq k) rfl) _ _
@[sl_canon] theorem blk_issue2 (k : Fin k0_t1_loop.trips) (hk : k.val + 1 < 8) (h hs) : permM.slice (Rect.unit (s := S2048x16384) (k0_off5 k) S64x16384.size h) hs = blk (Ring.bk 8 (k.val + 1)) 2 :=
  blk_of_off (off_next 2 hk (k0_off5_eq k) rfl) _ _
@[sl_canon] theorem blk_issue3 (k : Fin k0_t1_loop.trips) (hk : k.val + 1 < 8) (h hs) : permM.slice (Rect.unit (s := S2048x16384) (k0_off6 k) S64x16384.size h) hs = blk (Ring.bk 8 (k.val + 1)) 3 :=
  blk_of_off (off_next 3 hk (k0_off6_eq k) rfl) _ _

/-- Every trip but the last issues. -/
theorem conds_on : ∀ k : Fin k0_t1_loop.trips, k.val + 1 < 8 → k0_cond1 k = 1#1 ∧ k0_cond2 k = 1#1 ∧ k0_cond3 k = 1#1 ∧ k0_cond4 k = 1#1 := by decide +kernel
/-- The last trip starts no copy. -/
theorem conds_off : ∀ k : Fin k0_t1_loop.trips, ¬ k.val + 1 < 8 → ¬ k0_cond1 k = 1#1 ∧ ¬ k0_cond2 k = 1#1 ∧ ¬ k0_cond3 k = 1#1 ∧ ¬ k0_cond4 k = 1#1 := by decide +kernel

end Names

/-! ## What the trip holds -/

section Held
variable (c : Dev nD) (P : Buf (Elt F) (permM.view.loc (c : Thread nD τ)))

/-- Slot `r`'s semaphore at zero. -/
abbrev cellP (r : Fin 4) : sProp 𝕄 := semVal ((c : Thread nD τ), SemLoc.dma (cell r).sem) 0
/-- Slot `r` held, with contents `f`. -/
abbrev slotP (r : Fin 4) (f : Buf (Elt F) ((slot r).view.loc (c : Thread nD τ))) : sProp 𝕄 :=
  (slot r).view.loc (c : Thread nD τ) ↦[(slot r).view.set]{fullShare} f
/-- Slot `r` held with its semaphore at zero, at some contents. -/
abbrev freeP (r : Fin 4) : sProp 𝕄 := iprop(cellP c r ∗ ∃ f, slotP c r f)
/-- Block `r` of group `g` held. -/
abbrev blkP (g : Fin 8) (r : Fin 4) : sProp 𝕄 := (blk g r).view.loc (c : Thread nD τ) ↦[(blk g r).view.set]{fullShare} P
/-- The four blocks of group `g` held. -/
abbrev groupP (g : Fin 8) : sProp 𝕄 := iprop(blkP c P g 0 ∗ blkP c P g 1 ∗ blkP c P g 2 ∗ blkP c P g 3)
/-- The words of a block, as a transfer carries them. -/
abbrev words (g : Fin 8) (r : Fin 4) : S64x16384.Idx → Elt F .f32 := ReadAs.same.apply ((blk g r).view.read (Elt F) P)
/-- What the transfer of a block leaves in its slot, over `f`. -/
abbrev landed (g : Fin 8) (r : Fin 4) (f : Buf (Elt F) ((slot r).view.loc (c : Thread nD τ))) : Buf (Elt F) ((slot r).view.loc (c : Thread nD τ)) :=
  (slot r).view.writes (Elt F) f [⟨Rect.whole S64x16384, words c P g r⟩]
/-- How far a block's transfer raises its semaphore. -/
abbrev amt : ℕ := 131072
/-- Slot `r` awaiting its block of group `g`. -/
abbrev flightP (g : Fin 8) (r : Fin 4) (f : Buf (Elt F) ((slot r).view.loc (c : Thread nD τ))) : sProp 𝕄 :=
  Transfers.Flight countersEmb (c : Thread nD τ) (SemLoc.dma (cell r).sem) () amt iprop(slotP c r (landed c P g r f) ∗ blkP c P g r)

/-- A transfer issued into a slot where the block of group `g` had landed: both payloads are listed, the later one first. -/
theorem flight_over (g g' : Fin 8) (r : Fin 4) :
    flightP c P g' r (landed c P g r (slot r).view.junk)
      = Transfers.Flight countersEmb (c : Thread nD τ) (SemLoc.dma (cell r).sem) () amt
          iprop(((slot r).view.loc (c : Thread nD τ) ↦[(slot r).view.set]{fullShare}
              (slot r).view.writes (Elt F) (slot r).view.junk [⟨Rect.whole S64x16384, words c P g' r⟩, ⟨Rect.whole S64x16384, words c P g r⟩])
            ∗ blkP c P g' r) := by
  simp only [flightP, landed, slotP, View.writes]

/-- The groups not in flight at trip `k`: the next one beside the others. -/
theorem groups_here (k : ℕ) (hk : k + 1 < 8) :
    bigSep (Ring.homeSet 1 k) (groupP c P) = iprop(groupP c P (Ring.bk 8 (k + 1)) ∗ bigSep ((Ring.homeSet 1 k).erase (Ring.bk 8 (k + 1))) (groupP c P)) := by
  conv_lhs => rw [Ring.homeSet_out 1 k hk, bigSep_insert (Ring.bkL_not_mem_erase 1 k)]
  rfl
/-- The groups not in flight at the next trip: the one just read beside the same others. -/
theorem groups_next (k : ℕ) (hk : k + 1 < 8) :
    bigSep (Ring.homeSet 1 (k + 1)) (groupP c P) = iprop(groupP c P (Ring.bk 8 k) ∗ bigSep ((Ring.homeSet 1 k).erase (Ring.bk 8 (k + 1))) (groupP c P)) := by
  conv_lhs => rw [Ring.homeSet_succ 1 k hk, bigSep_insert (Ring.bk_not_mem_erase 1 k (by omega) (by decide))]
  rfl
/-- After the last trip every group is back. -/
theorem groups_last (k : ℕ) (hk : k < 8) (hl : ¬ k + 1 < 8) :
    bigSep Finset.univ (groupP c P) = iprop(groupP c P (Ring.bk 8 k) ∗ bigSep (Ring.homeSet 1 k) (groupP c P)) := by
  have e : (Finset.univ : Finset (Fin 8)) = insert (Ring.bk 8 k) (Ring.homeSet 1 k) := by
    ext b; have hb := b.isLt
    simp only [Finset.mem_univ, Finset.mem_insert, Ring.mem_homeSet, true_iff, Fin.ext_iff, Ring.bk_val hk]; omega
  rw [e, bigSep_insert (Ring.bk_not_mem_homeSet 1 k hk (by decide))]; rfl
end Held

/-! ## The trip -/

section Trip
variable (c : Dev nD) (P : Buf (Elt F) (permM.view.loc (c : Thread nD τ)))
  (arg0 : Memref sig .tc .vmem S1x16384 .i32) (harg0 : arg0.IsWhole)
  (arg1 : Memref sig .tc .vmem S2048x1 .f32) (harg1 : arg1.IsWhole)
  (arg3 : Memref sig .tc .vmem S2048x32 .f32) (harg3 : arg3.IsWhole)
  (keyM : Memref sig .tc .vmem S2048x1 .i32) (hkeyM : keyM.IsWhole)
  (mask : FVec F S1x16384 .f32)
  (boost : Buf (Elt F) (arg1.view.loc (c : Thread nD τ)))

/-- The buffers the trip reads and writes beside the blocks and slots: the boost, the keys, the core's account. -/
abbrev baseP (keys : Buf (Elt F) (keyM.view.loc (c : Thread nD τ))) : sProp 𝕄 :=
  iprop((arg1.view.loc (c : Thread nD τ) ↦[arg1.view.set]{fullShare} boost)
    ∗ (keyM.view.loc (c : Thread nD τ) ↦[keyM.view.set]{fullShare} keys) ∗ (∃ W, owes (c : Thread nD τ) 0 W))
/-- Before trip `k`: group `k` in flight, the other groups held. -/
def busyAt (k : ℕ) (keys : Buf (Elt F) (keyM.view.loc (c : Thread nD τ))) : sProp 𝕄 :=
  iprop(baseP c arg1 keyM boost keys ∗ bigSep (Ring.homeSet 1 k) (groupP c P)
    ∗ (∃ f, flightP c P (Ring.bk 8 k) 0 f) ∗ (∃ f, flightP c P (Ring.bk 8 k) 1 f)
    ∗ (∃ f, flightP c P (Ring.bk 8 k) 2 f) ∗ (∃ f, flightP c P (Ring.bk 8 k) 3 f))
/-- After the last trip: every group held, every slot free. -/
def doneAt (keys : Buf (Elt F) (keyM.view.loc (c : Thread nD τ))) : sProp 𝕄 :=
  iprop(baseP c arg1 keyM boost keys ∗ bigSep Finset.univ (groupP c P) ∗ freeP c 0 ∗ freeP c 1 ∗ freeP c 2 ∗ freeP c 3)

/-- The trip's program. -/
abbrev tripP (k : Fin k0_t1_loop.trips) : Prog (TpuEff nD τ sig (Elt F) Λ₀ .tc) Unit :=
  k0_t1_body (F := F) arg0 harg0 arg1 harg1 permM (Memref.isWhole_whole _) arg3 harg3 bufM (Memref.isWhole_whole _) keyM hkeyM cc0_scratch2 mask 0#32 k ()

/-- The rows of the keys (and of the boost) that block `r` of trip `k` fills. -/
abbrev rowsAt (k : Fin k0_t1_loop.trips) (r : Fin 4) : Rect S2048x1 :=
  Rect.unit (s := S2048x1) (k0_off2 k (BitVec.ofNat 32 r.val)) S64x1.size (k0_off2_inb k r)

/-- What the trip loads of slot `r` once its block of group `g` has landed. -/
abbrev slotRead (g : Fin 8) (r : Fin 4) : Vec F S1x64x16384 .f32 :=
  bufM.view.readAt (Elt F) (Rect.unit (s := S4x64x16384) (slotOff r) S1x64x16384.size (slotOff_inb r)).toLoadRect (landed c P g r (slot r).view.junk)
/-- The boost of the rows of block `r` of trip `k`. -/
abbrev boostRead (k : Fin k0_t1_loop.trips) (r : Fin 4) : Vec F S64x1 .f32 :=
  arg1.view.readAt (Elt F) (rowsAt k r).toLoadRect boost
/-- The 64 keys that the trip stores for its block `r`. -/
def keyBlock (k : Fin k0_t1_loop.trips) : Fin 4 → IVec S64x1 32 := ![
  k0_pay4 mask 0#32 1#32 k (slotRead c P (Ring.bk 8 k.val) 0) (boostRead c arg1 boost k 0),
  k0_pay6 (k0_pay5 mask (Scf.iv 0#32 1#32 k) (slotRead c P (Ring.bk 8 k.val) 1) (boostRead c arg1 boost k 1)),
  k0_pay8 (k0_pay7 mask (Scf.iv 0#32 1#32 k) (slotRead c P (Ring.bk 8 k.val) 2) (boostRead c arg1 boost k 2)),
  k0_pay1 (k0_pay9 (Scf.iv 0#32 1#32 k)) (k0_pay10 mask (slotRead c P (Ring.bk 8 k.val) 3) (boostRead c arg1 boost k 3)) k0_pay11]
/-- The keys' buffer after the trip's four stores over `keys`. -/
def keysNext (k : Fin k0_t1_loop.trips) (keys : Buf (Elt F) (keyM.view.loc (c : Thread nD τ))) : Buf (Elt F) (keyM.view.loc (c : Thread nD τ)) :=
  keyM.view.writes (Elt F) keys [⟨rowsAt k 3, keyBlock c P arg1 mask boost k 3⟩, ⟨rowsAt k 2, keyBlock c P arg1 mask boost k 2⟩,
    ⟨rowsAt k 1, keyBlock c P arg1 mask boost k 1⟩, ⟨rowsAt k 0, keyBlock c P arg1 mask boost k 0⟩]

set_option maxHeartbeats 1000000 in
/-- A trip that is not the last: its four stores are made, and the next group is in flight. -/
theorem trip_mid (k : Fin k0_t1_loop.trips) (hk : k.val + 1 < 8) (keys : Buf (Elt F) (keyM.view.loc (c : Thread nD τ))) :
    busyAt c P arg1 keyM boost k keys ⊢ wp frame (wpE (defs₀ (F := F)) 𝒱₀ (c : Thread nD τ) none) Set.univ (tripP arg0 harg0 arg1 harg1 arg3 harg3 keyM hkeyM mask k)
      (fun _ => busyAt c P arg1 keyM boost (k.val + 1) (keysNext c P arg1 keyM mask boost k keys)) := by
  obtain ⟨h1, h2, h3, h4⟩ := conds_on k hk
  unfold busyAt
  rw [groups_here c P k.val hk, groups_next c P k.val hk]
  iintro ⟨⟨HB, HK, ⟨%W, HW⟩⟩, ⟨⟨Hg0, Hg1, Hg2, Hg3⟩, Hrest⟩, ⟨%f0, HF0⟩, ⟨%f1, HF1⟩, ⟨%f2, HF2⟩, ⟨%f3, HF3⟩⟩
  dsimp only [tripP]
  sl_unfold [k0_t1_body]
  sl_exec
  sl_step
  isplitl [HB HK HW]
  · isplitl [HB]; · iexact HB
    isplitl [HK]; · iexact HK
    iexists _; iexact HW
  isplitl [HF0_src HF1_src HF2_src HF3_src Hrest]
  · isplitl [HF0_src HF1_src HF2_src HF3_src]
    · isplitl [HF0_src]; · iexact HF0_src
      isplitl [HF1_src]; · iexact HF1_src
      isplitl [HF2_src]; · iexact HF2_src
      iexact HF3_src
    iexact Hrest
  isplitl [HF0]; · iexists landed c P (Ring.bk 8 k.val) 0 (slot 0).view.junk; irw [flight_over]; iexact HF0
  isplitl [HF1]; · iexists landed c P (Ring.bk 8 k.val) 1 (slot 1).view.junk; irw [flight_over]; iexact HF1
  isplitl [HF2]; · iexists landed c P (Ring.bk 8 k.val) 2 (slot 2).view.junk; irw [flight_over]; iexact HF2
  iexists landed c P (Ring.bk 8 k.val) 3 (slot 3).view.junk; irw [flight_over]; iexact HF3

set_option maxHeartbeats 1000000 in
/-- The last trip: its four stores are made, every group is back and every slot is free. -/
theorem trip_last (k : Fin k0_t1_loop.trips) (hk : ¬ k.val + 1 < 8) (keys : Buf (Elt F) (keyM.view.loc (c : Thread nD τ))) :
    busyAt c P arg1 keyM boost k keys ⊢ wp frame (wpE (defs₀ (F := F)) 𝒱₀ (c : Thread nD τ) none) Set.univ (tripP arg0 harg0 arg1 harg1 arg3 harg3 keyM hkeyM mask k)
      (fun _ => doneAt c P arg1 keyM boost (keysNext c P arg1 keyM mask boost k keys)) := by
  obtain ⟨h1, h2, h3, h4⟩ := conds_off k hk
  unfold busyAt doneAt
  rw [groups_last c P k.val (Nat.lt_of_lt_of_eq k.isLt trips_eq) hk]
  iintro ⟨⟨HB, HK, ⟨%W, HW⟩⟩, Hrest, ⟨%f0, HF0⟩, ⟨%f1, HF1⟩, ⟨%f2, HF2⟩, ⟨%f3, HF3⟩⟩
  dsimp only [tripP]
  sl_unfold [k0_t1_body]
  sl_exec
  sl_step
  isplitl [HB HK HW]
  · isplitl [HB]; · iexact HB
    isplitl [HK]; · iexact HK
    iexists _; iexact HW
  isplitl [HF0_src HF1_src HF2_src HF3_src Hrest]
  · isplitl [HF0_src HF1_src HF2_src HF3_src]
    · isplitl [HF0_src]; · iexact HF0_src
      isplitl [HF1_src]; · iexact HF1_src
      isplitl [HF2_src]; · iexact HF2_src
      iexact HF3_src
    iexact Hrest
  isplitl [HF0 HF0_dst]
  · isplitl [HF0]; · iexact HF0
    iexists _; iexact HF0_dst
  isplitl [HF1 HF1_dst]
  · isplitl [HF1]; · iexact HF1
    iexists _; iexact HF1_dst
  isplitl [HF2 HF2_dst]
  · isplitl [HF2]; · iexact HF2
    iexists _; iexact HF2_dst
  isplitl [HF3]; · iexact HF3
  iexists _; iexact HF3_dst

end Trip

end Cert.Proof.KernelIdeal

end
-- ==== Proof.IdealBody.lean ====
/-
  The body of the idealized kernel: four transfers issued, the counted loop through the permanences, the bisection over
  the keys, the store of the result.
-/
module

public import proofs.«01_k».proof.Proof.IdealTrip

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Loop
variable (c : Dev nD) (P : Buf (Elt F) (permM.view.loc (c : Thread nD τ)))
  (arg0 : Memref sig .tc .vmem S1x16384 .i32) (harg0 : arg0.IsWhole)
  (arg1 : Memref sig .tc .vmem S2048x1 .f32) (harg1 : arg1.IsWhole)
  (arg3 : Memref sig .tc .vmem S2048x32 .f32) (harg3 : arg3.IsWhole)
  (keyM : Memref sig .tc .vmem S2048x1 .i32) (hkeyM : keyM.IsWhole)
  (mask : FVec F S1x16384 .f32)
  (boost : Buf (Elt F) (arg1.view.loc (c : Thread nD τ)))

/-- The keys' buffer before trip `k`, from `keys` before the first. -/
def keysAt (keys : Buf (Elt F) (keyM.view.loc (c : Thread nD τ))) : ℕ → Buf (Elt F) (keyM.view.loc (c : Thread nD τ))
  | 0 => keys
  | k + 1 => if h : k < k0_t1_loop.trips then keysNext c P arg1 keyM mask boost ⟨k, h⟩ (keysAt keys k) else keysAt keys k

/-- One more trip writes one more group of keys. -/
theorem keysAt_succ (keys : Buf (Elt F) (keyM.view.loc (c : Thread nD τ))) (k : Fin k0_t1_loop.trips) :
    keysAt c P arg1 keyM mask boost keys (k.val + 1) = keysNext c P arg1 keyM mask boost k (keysAt c P arg1 keyM mask boost keys k.val) := by
  rw [keysAt, dif_pos k.isLt]

/-- What is held before trip `k`: a group in flight while trips remain, everything back after the last. -/
def atTrip (keys : Buf (Elt F) (keyM.view.loc (c : Thread nD τ))) (k : ℕ) : sProp 𝕄 :=
  if k < 8 then busyAt c P arg1 keyM boost k (keysAt c P arg1 keyM mask boost keys k)
  else doneAt c P arg1 keyM boost (keysAt c P arg1 keyM mask boost keys k)

/-- Before a trip that is still to run, the state is the busy one. -/
theorem atTrip_busy (keys : Buf (Elt F) (keyM.view.loc (c : Thread nD τ))) (k : ℕ) (hk : k < 8) :
    atTrip c P arg1 keyM mask boost keys k = busyAt c P arg1 keyM boost k (keysAt c P arg1 keyM mask boost keys k) := by
  unfold atTrip; rw [if_pos hk]
/-- After the last trip the state is the finished one. -/
theorem atTrip_done (keys : Buf (Elt F) (keyM.view.loc (c : Thread nD τ))) (k : ℕ) (hk : ¬ k < 8) :
    atTrip c P arg1 keyM mask boost keys k = doneAt c P arg1 keyM boost (keysAt c P arg1 keyM mask boost keys k) := by
  unfold atTrip; rw [if_neg hk]

/-- One trip, whichever it is. -/
theorem trip_any (keys : Buf (Elt F) (keyM.view.loc (c : Thread nD τ))) (k : Fin k0_t1_loop.trips) :
    atTrip c P arg1 keyM mask boost keys k.val ⊢ wp frame (wpE (defs₀ (F := F)) 𝒱₀ (c : Thread nD τ) none) Set.univ
      (tripP arg0 harg0 arg1 harg1 arg3 harg3 keyM hkeyM mask k) (fun _ => atTrip c P arg1 keyM mask boost keys (k.val + 1)) := by
  have hk : k.val < 8 := Nat.lt_of_lt_of_eq k.isLt trips_eq
  rw [atTrip_busy c P arg1 keyM mask boost keys k.val hk]
  by_cases hn : k.val + 1 < 8
  · rw [atTrip_busy c P arg1 keyM mask boost keys (k.val + 1) hn, keysAt_succ c P arg1 keyM mask boost keys k]
    exact trip_mid c P arg0 harg0 arg1 harg1 arg3 harg3 keyM hkeyM mask boost k hn (keysAt c P arg1 keyM mask boost keys k.val)
  · rw [atTrip_done c P arg1 keyM mask boost keys (k.val + 1) hn, keysAt_succ c P arg1 keyM mask boost keys k]
    exact trip_last c P arg0 harg0 arg1 harg1 arg3 harg3 keyM hkeyM mask boost k hn (keysAt c P arg1 keyM mask boost keys k.val)

set_option warn.classDefReducibility false in
/-- The loop's invariant. -/
def loopInv (keys : Buf (Elt F) (keyM.view.loc (c : Thread nD τ))) :
    LoopInvTy_k0_t1 (F := F) Unit ℕ (UU nD τ) ℕ 𝒱₀ c none Set.univ arg0 harg0 arg1 harg1 permM (Memref.isWhole_whole _) arg3 harg3 bufM (Memref.isWhole_whole _) keyM hkeyM cc0_scratch2 mask 0#32 where
  inv k _ := atTrip c P arg1 keyM mask boost keys k
  step k acc := by
    cases acc
    exact trip_any c P arg0 harg0 arg1 harg1 arg3 harg3 keyM hkeyM mask boost keys k

/-- The loop starts in the busy state. -/
theorem atTrip_zero (keys : Buf (Elt F) (keyM.view.loc (c : Thread nD τ))) :
    atTrip c P arg1 keyM mask boost keys 0 = busyAt c P arg1 keyM boost 0 keys := by
  rw [atTrip_busy c P arg1 keyM mask boost keys 0 (by decide), keysAt]
/-- The loop ends in the finished state. -/
theorem atTrip_end (keys : Buf (Elt F) (keyM.view.loc (c : Thread nD τ))) :
    atTrip c P arg1 keyM mask boost keys k0_t1_loop.trips = doneAt c P arg1 keyM boost (keysAt c P arg1 keyM mask boost keys 8) := by
  rw [trips_eq, atTrip_done c P arg1 keyM mask boost keys 8 (by decide)]

/-- At entry the first group is apart from the others. -/
theorem groups_entry : bigSep Finset.univ (groupP c P) = iprop(groupP c P (Ring.bk 8 0) ∗ bigSep (Ring.homeSet 1 0) (groupP c P)) := by
  have e : (Finset.univ : Finset (Fin 8)) = insert (Ring.bk 8 0) (Ring.homeSet 1 0) := by
    ext b; have hb := b.isLt
    simp only [Finset.mem_univ, Finset.mem_insert, Ring.mem_homeSet, true_iff, Fin.ext_iff, Ring.bk_val (show 0 < 8 by decide)]; omega
  rw [e, bigSep_insert (Ring.bk_not_mem_homeSet 1 0 (by decide) (by decide))]; rfl

end Loop

section Body
variable (c : Dev nD) (P : Buf (Elt F) (permM.view.loc (c : Thread nD τ)))
  (arg0 : Memref sig .tc .vmem S1x16384 .i32) (harg0 : arg0.IsWhole)
  (arg1 : Memref sig .tc .vmem S2048x1 .f32) (harg1 : arg1.IsWhole)
  (arg3 : Memref sig .tc .vmem S2048x32 .f32) (harg3 : arg3.IsWhole)
  (keyM : Memref sig .tc .vmem S2048x1 .i32) (hkeyM : keyM.IsWhole)

/-- The body's program. -/
abbrev bodyP : Prog (TpuEff nD τ sig (Elt F) Λ₀ .tc) PUnit :=
  cc0__htm_kernel arg0 harg0 arg1 harg1 permM (Memref.isWhole_whole _) arg3 harg3 bufM (Memref.isWhole_whole _) keyM hkeyM cc0_scratch2

/-- The mask of the columns whose input word is not zero. -/
abbrev maskOf (x : Buf (Elt F) (arg0.view.loc (c : Thread nD τ))) : FVec F S1x16384 .f32 :=
  k0_pay12 (arg0.view.readAt (Elt F) (Rect.unit ![0, 0] S1x16384.size inb_S1x16384_S1x16384_0_0).toLoadRect x)
/-- The keys the last trip leaves. -/
abbrev keysEnd (x : Buf (Elt F) (arg0.view.loc (c : Thread nD τ))) (boost : Buf (Elt F) (arg1.view.loc (c : Thread nD τ)))
    (keys : Buf (Elt F) (keyM.view.loc (c : Thread nD τ))) : Buf (Elt F) (keyM.view.loc (c : Thread nD τ)) :=
  keysAt c P arg1 keyM (maskOf c arg0 x) boost keys 8
/-- The keys as the body loads them. -/
abbrev keysRead (keys : Buf (Elt F) (keyM.view.loc (c : Thread nD τ))) : Vec F S2048x1 .i32 :=
  keyM.view.readAt (Elt F) (Rect.unit ![0, 0] S2048x1.size inb_S2048x1_S2048x1_0_0).toLoadRect keys

/-- One halving of the interval `p`: the midpoint, rounded down, becomes the lower end if at least ninety keys reach
    it and the upper end otherwise. -/
def halve (v : Vec F S2048x1 .i32) (p : BitVec 32 × BitVec 32) : BitVec 32 × BitVec 32 :=
  let sum := Scalar.addi p.1 p.2
  let quot := Scalar.divsi sum 2#32
  let signs := Scalar.cmpi .ne
    (Scalar.subi (Scalar.extui (Scalar.cmpi .sgt sum 0#32) : BitVec 32) (Scalar.extui (Scalar.cmpi .slt sum 0#32)))
    (Scalar.subi (Scalar.extui (Scalar.cmpi .sgt 2#32 0#32)) (Scalar.extui (Scalar.cmpi .slt 2#32 0#32)))
  let mid := Scalar.select (Scalar.andi signs (Scalar.cmpi .ne (Scalar.remsi sum 2#32) 0#32)) (Scalar.subi quot 1#32) quot
  let many := Scalar.cmpi .sge (extractAt ![0, 0, 0] (k0_pay2 v p.1 p.2) inpos_S1x1x1_p0_0_0) 90#32
  (Scalar.select many mid p.1, Scalar.select many p.2 mid)
/-- The interval the bisection ends with. -/
def bisect (v : Vec F S2048x1 .i32) : BitVec 32 × BitVec 32 :=
  Scf.fold (n := k0_t2_loop.trips) (fun _ p => halve v p) (0#32, 67108864#32)
/-- What the body leaves in the result's window. -/
abbrev outEnd (keys : Buf (Elt F) (keyM.view.loc (c : Thread nD τ))) (out : Buf (Elt F) (arg3.view.loc (c : Thread nD τ))) :
    Buf (Elt F) (arg3.view.loc (c : Thread nD τ)) :=
  arg3.view.writes (Elt F) out [⟨Rect.unit ![0, 0] S2048x32.size inb_S2048x32_S2048x32_0_0,
    k0_pay3 (keysRead c keyM keys) (bisect (keysRead c keyM keys)).1⟩]

set_option maxHeartbeats 1000000 in
/-- The body, from its two inputs staged, the permanences, the four slots and the keys' buffer at anything: it ends with
    the inputs and the permanences as they were and the result stored. -/
theorem bodyRun (x : Buf (Elt F) (arg0.view.loc (c : Thread nD τ))) (boost : Buf (Elt F) (arg1.view.loc (c : Thread nD τ)))
    (out : Buf (Elt F) (arg3.view.loc (c : Thread nD τ))) (keys : Buf (Elt F) (keyM.view.loc (c : Thread nD τ))) (Q : PUnit → sProp 𝕄) :
    iprop((arg0.view.loc (c : Thread nD τ) ↦[arg0.view.set]{fullShare} x)
      ∗ (arg3.view.loc (c : Thread nD τ) ↦[arg3.view.set]{fullShare} out)
      ∗ doneAt c P arg1 keyM boost keys
      ∗ (((arg0.view.loc (c : Thread nD τ) ↦[arg0.view.set]{fullShare} x)
          ∗ (arg3.view.loc (c : Thread nD τ) ↦[arg3.view.set]{fullShare} outEnd c arg3 keyM (keysEnd c P arg0 arg1 keyM x boost keys) out)
          ∗ doneAt c P arg1 keyM boost (keysEnd c P arg0 arg1 keyM x boost keys)) -∗ Q ⟨⟩))
      ⊢ wp frame (wpE (defs₀ (F := F)) 𝒱₀ (c : Thread nD τ) none) Set.univ (bodyP arg0 harg0 arg1 harg1 arg3 harg3 keyM hkeyM) Q := by
  unfold doneAt
  rw [groups_entry]
  iintro ⟨HX, HO, ⟨⟨HB, HK, ⟨%W, HW⟩⟩, ⟨⟨Hg0, Hg1, Hg2, Hg3⟩, Hrest⟩, ⟨Hc0, ⟨%f0, Hs0⟩⟩, ⟨Hc1, ⟨%f1, Hs1⟩⟩, ⟨Hc2, ⟨%f2, Hs2⟩⟩, ⟨Hc3, ⟨%f3, Hs3⟩⟩⟩, HQ⟩
  sl_exec
  iapply (exec_loop (Idealize.ShloMosaic.frame) (wpE (defs₀ (F := F)) 𝒱₀ (c : Thread nD τ) none) Set.univ k0_t1_loop.lb k0_t1_loop.ub k0_t1_loop.st k0_t1_ok () _
      (loopInv c P arg0 harg0 arg1 harg1 arg3 harg3 keyM hkeyM (maskOf c arg0 x) boost keys)) $$ [HB HK HW Hrest Hc0 Hc1 Hc2 Hc3]
  · irw [show (loopInv c P arg0 harg0 arg1 harg1 arg3 harg3 keyM hkeyM (maskOf c arg0 x) boost keys).inv 0 () = busyAt c P arg1 keyM boost 0 keys from atTrip_zero c P arg1 keyM (maskOf c arg0 x) boost keys]
    unfold busyAt
    isplitl [HB HK HW]
    · isplitl [HB]; · iexact HB
      isplitl [HK]; · iexact HK
      iexists _; iexact HW
    isplitl [Hrest]; · iexact Hrest
    isplitl [Hc0]; · iexists f0; iexact Hc0
    isplitl [Hc1]; · iexists f1; iexact Hc1
    isplitl [Hc2]; · iexists f2; iexact Hc2
    iexists f3; iexact Hc3
  iintro %acc HD
  ihave HE := (show (loopInv c P arg0 harg0 arg1 harg1 arg3 harg3 keyM hkeyM (maskOf c arg0 x) boost keys).inv k0_t1_loop.trips acc
      ⊢ doneAt c P arg1 keyM boost (keysEnd c P arg0 arg1 keyM x boost keys) from by
    rw [← atTrip_end c P arg1 keyM (maskOf c arg0 x) boost keys]; exact BIBase.Entails.rfl) $$ HD
  unfold doneAt
  icases HE with ⟨⟨HB, HK, HW⟩, Hrest, Hf⟩
  sl_exec
  sl_step
  iapply HQ
  isplitl [HX]; · iexact HX
  isplitl [HO]; · iexact HO
  isplitl [HB HK HW]
  · isplitl [HB]; · iexact HB
    isplitl [HK]; · iexact HK
    iexact HW
  isplitl [Hrest]; · irw [← groups_entry]; iexact Hrest
  iexact Hf

end Body

end Cert.Proof.KernelIdeal

end
-- ==== Proof.IdealKeys.lean ====
/-
  The keys after the last trip: whatever the buffer held before, each row holds the key that its own trip and block
  stored.
-/
module

public import proofs.«01_k».proof.Proof.IdealBody
public import Idealize.ShloMosaic.Lib.WritesUnit
public import Idealize.ShloMosaic.Lib.VecWindow
public import Idealize.ShloMosaic.Lib.Pointwise.Index

@[expose] public section

noncomputable section

namespace Cert.Proof.KernelIdeal

open Cert.KernelIdeal Cert.KernelIdeal.Gen
open Idealize.ShloMosaic Idealize.ShloMosaic.TcCoe

variable {F : FTy → Type} [FloatOps F]
variable (c : Dev nD) (P : Buf (Elt F) (permM.view.loc (c : Thread nD τ)))
  (arg1 : Memref sig .tc .vmem S2048x1 .f32)
  (arg3 : Memref sig .tc .vmem S2048x32 .f32)
  (keyM : Memref sig .tc .vmem S2048x1 .i32)
  (mask : FVec F S1x16384 .f32)
  (boost : Buf (Elt F) (arg1.view.loc (c : Thread nD τ)))

/-- A trip's stores, read at a row of its block `r`: the key stored there. -/
theorem keysNext_hit (k : Fin k0_t1_loop.trips) (keys : Buf (Elt F) (keyM.view.loc (c : Thread nD τ))) (r : Fin 4)
    (x : S64x1.Idx) (y : S2048x1.Idx) (h : (y (0 : Fin 2)).val = 256 * k.val + 64 * r.val + (x (0 : Fin 2)).val) :
    keyM.view.read (Elt F) (keysNext c P arg1 keyM mask boost k keys) y = keyBlock c P arg1 mask boost k r x := by
  have h1 : (y (1 : Fin 2)).val = (x (1 : Fin 2)).val := by
    have a : (y (1 : Fin 2)).val < 1 := (y 1).isLt
    have b : (x (1 : Fin 2)).val < 1 := (x 1).isLt
    omega
  have hx : (x (0 : Fin 2)).val < 64 := (x 0).isLt
  unfold keysNext
  fin_cases r
  · have h' : (y (0 : Fin 2)).val = 256 * k.val + 64 * 0 + (x (0 : Fin 2)).val := h
    rw [View.read_writes_cons_rows_of_not_mem _ _ _ _ _ y (k0_off2_eq k 3) rfl (Or.inl (by simp only [Fin.isValue, Fin.val_ofNat]; omega)),
      View.read_writes_cons_rows_of_not_mem _ _ _ _ _ y (k0_off2_eq k 2) rfl (Or.inl (by simp only [Fin.isValue, Fin.val_ofNat]; omega)),
      View.read_writes_cons_rows_of_not_mem _ _ _ _ _ y (k0_off2_eq k 1) rfl (Or.inl (by simp only [Fin.isValue, Fin.val_ofNat]; omega))]
    exact View.read_writes_cons_rows_of_mem _ _ _ _ _ y x (k0_off2_eq k 0) h' h1
  · have h' : (y (0 : Fin 2)).val = 256 * k.val + 64 * 1 + (x (0 : Fin 2)).val := h
    rw [View.read_writes_cons_rows_of_not_mem _ _ _ _ _ y (k0_off2_eq k 3) rfl (Or.inl (by simp only [Fin.isValue, Fin.val_ofNat]; omega)),
      View.read_writes_cons_rows_of_not_mem _ _ _ _ _ y (k0_off2_eq k 2) rfl (Or.inl (by simp only [Fin.isValue, Fin.val_ofNat]; omega))]
    exact View.read_writes_cons_rows_of_mem _ _ _ _ _ y x (k0_off2_eq k 1) h' h1
  · have h' : (y (0 : Fin 2)).val = 256 * k.val + 64 * 2 + (x (0 : Fin 2)).val := h
    rw [View.read_writes_cons_rows_of_not_mem _ _ _ _ _ y (k0_off2_eq k 3) rfl (Or.inl (by simp only [Fin.isValue, Fin.val_ofNat]; omega))]
    exact View.read_writes_cons_rows_of_mem _ _ _ _ _ y x (k0_off2_eq k 2) h' h1
  · exact View.read_writes_cons_rows_of_mem _ _ _ _ _ y x (k0_off2_eq k 3) h h1

/-- A trip's stores, read at a row of another trip: what was there. -/
theorem keysNext_miss (k : Fin k0_t1_loop.trips) (keys : Buf (Elt F) (keyM.view.loc (c : Thread nD τ)))
    (y : S2048x1.Idx) (h : (y (0 : Fin 2)).val < 256 * k.val ∨ 256 * k.val + 256 ≤ (y (0 : Fin 2)).val) :
    keyM.view.read (Elt F) (keysNext c P arg1 keyM mask boost k keys) y = keyM.view.read (Elt F) keys y := by
  unfold keysNext
  rw [View.read_writes_cons_rows_of_not_mem _ _ _ _ _ y (k0_off2_eq k 3) rfl (by simp only [Fin.isValue, Fin.val_ofNat, Nat.reduceMod]; show _ ∨ _ + 64 ≤ _; omega),
    View.read_writes_cons_rows_of_not_mem _ _ _ _ _ y (k0_off2_eq k 2) rfl (by simp only [Fin.isValue, Fin.val_ofNat, Nat.reduceMod]; show _ ∨ _ + 64 ≤ _; omega),
    View.read_writes_cons_rows_of_not_mem _ _ _ _ _ y (k0_off2_eq k 1) rfl (by simp only [Fin.isValue, Fin.val_ofNat, Nat.reduceMod]; show _ ∨ _ + 64 ≤ _; omega),
    View.read_writes_cons_rows_of_not_mem _ _ _ _ _ y (k0_off2_eq k 0) rfl (by simp only [Fin.isValue, Fin.val_ofNat, Nat.reduceMod]; show _ ∨ _ + 64 ≤ _; omega)]
  rfl

/-- Before trip `n`, a row of an earlier trip `k` holds the key that trip `k` stored there. -/
theorem keysAt_read (keys : Buf (Elt F) (keyM.view.loc (c : Thread nD τ))) (n : ℕ) (hn : n ≤ 8) (k : Fin k0_t1_loop.trips) (hk : k.val < n)
    (r : Fin 4) (x : S64x1.Idx) (y : S2048x1.Idx) (h : (y (0 : Fin 2)).val = 256 * k.val + 64 * r.val + (x (0 : Fin 2)).val) :
    keyM.view.read (Elt F) (keysAt c P arg1 keyM mask boost keys n) y = keyBlock c P arg1 mask boost k r x := by
  induction n with
  | zero => omega
  | succ n ih =>
    have hx : (x (0 : Fin 2)).val < 64 := (x 0).isLt
    have hr := r.isLt
    have hlt : n < k0_t1_loop.trips := by rw [trips_eq]; omega
    rw [keysAt_succ c P arg1 keyM mask boost keys ⟨n, hlt⟩]
    rcases Nat.lt_or_ge k.val n with hkn | hkn
    · rw [keysNext_miss c P arg1 keyM mask boost ⟨n, hlt⟩ _ y (Or.inl (by show _ < 256 * n; omega))]
      exact ih (by omega) hkn
    · have e : k = ⟨n, hlt⟩ := Fin.ext (by show k.val = n; omega)
      subst e
      exact keysNext_hit c P arg1 keyM mask boost _ _ r x y h

/-- The 2048 keys: row `y` is row `y mod 64` of block `y mod 256 / 64` of trip `y / 256`. -/
def keyVec : Vec F S2048x1 .i32 := fun y =>
  keyBlock c P arg1 mask boost
    ⟨(y (0 : Fin 2)).val / 256, by rw [trips_eq]; have : (y (0 : Fin 2)).val < 2048 := (y 0).isLt; omega⟩
    ⟨(y (0 : Fin 2)).val % 256 / 64, by omega⟩
    (ix2 ⟨(y (0 : Fin 2)).val % 64, by omega⟩ 0)

/-- The keys as the body loads them after the loop, whatever the buffer held before it. -/
theorem keysRead_end (keys : Buf (Elt F) (keyM.view.loc (c : Thread nD τ))) :
    keysRead c keyM (keysAt c P arg1 keyM mask boost keys 8) = keyVec c P arg1 mask boost := by
  unfold keysRead
  rw [View.readAt_full]
  funext y
  have hy : (y (0 : Fin 2)).val < 2048 := (y 0).isLt
  exact keysAt_read c P arg1 keyM mask boost keys 8 le_rfl _ (by show _ / 256 < 8; omega) _ _ y (by
    show (y (0 : Fin 2)).val = 256 * ((y (0 : Fin 2)).val / 256) + 64 * ((y (0 : Fin 2)).val % 256 / 64) + (y (0 : Fin 2)).val % 64
    omega)

/-- The result's window as the body leaves it, whatever it held. -/
theorem outEnd_read (keys : Buf (Elt F) (keyM.view.loc (c : Thread nD τ))) (out : Buf (Elt F) (arg3.view.loc (c : Thread nD τ))) :
    arg3.view.read (Elt F) (outEnd c arg3 keyM (keysAt c P arg1 keyM mask boost keys 8) out)
      = k0_pay3 (keyVec c P arg1 mask boost) (bisect (keyVec c P arg1 mask boost)).1 := by
  unfold outEnd
  rw [View.read_writes_full, keysRead_end]

end Cert.Proof.KernelIdeal

end
-- ==== Proof.IdealHeld.lean ====
/-
  What the launch hands the body, cut into the pieces that the body moves: the permanences into 8 groups of 4 blocks, the
  buffer into its 4 slots, the kernel's own semaphores into the slots' 4.
-/
module

public import proofs.«01_k».proof.Proof.IdealKeys

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- Equal assertions entail each other. -/
theorem entails_of_eq {A B : sProp 𝕄} (e : A = B) : A ⊢ B := e ▸ .rfl

/-- The semaphores the kernel signals itself: the four slots'. -/
abbrev osem : Fin 4 → SemLoc sig := fun r => .dma (cell r).sem
/-- The semaphores of the copies are none of the pipeline's. -/
theorem ownSemFacts : Pipeline.OwnSemFacts spec0 osem := by decide

/-- The elements of a block of the permanences, and of a slot of the buffer. -/
abbrev blkSet (b : Fin 8 × Fin 4) : Finset S2048x16384.Idx := (Rect.unit (s := S2048x16384) (blkOff b.1 b.2) S64x16384.size (blkOff_inb b.1 b.2)).set
/-- The elements of a slot. -/
abbrev slotSet (r : Fin 4) : Finset S4x64x16384.Idx := (Rect.unit (s := S4x64x16384) (slotOff r) S1x64x16384.size (slotOff_inb r)).set

/-- The elements of a block of the permanences. -/
theorem blk_set (g : Fin 8) (r : Fin 4) : (blk g r).view.set = blkSet (g, r) := View.set_slice_whole _ _
/-- The elements of a slot as the copies see it. -/
theorem slot_set (r : Fin 4) : (slot r).view.set = slotSet r := (View.set_reshape _ _).trans (View.set_slice_whole _ _)

/-- Membership of a block is a matter of the row. -/
theorem mem_blkSet (b : Fin 8 × Fin 4) (y : S2048x16384.Idx) : y ∈ blkSet b ↔ (y 0).val / 64 = 4 * b.1.val + b.2.val := by
  rw [Rect.mem_set_unit]
  have h1 : (y 1).val < 16384 := (y 1).isLt
  constructor
  · intro H; have a0 : 256 * b.1.val + 64 * b.2.val ≤ (y 0).val ∧ (y 0).val < 256 * b.1.val + 64 * b.2.val + 64 := H 0; omega
  · intro H i; fin_cases i
    · show 256 * b.1.val + 64 * b.2.val ≤ (y 0).val ∧ (y 0).val < 256 * b.1.val + 64 * b.2.val + 64; omega
    · show 0 ≤ (y 1).val ∧ (y 1).val < 0 + 16384; omega
/-- Membership of a slot is a matter of the first coordinate. -/
theorem mem_slotSet (r : Fin 4) (y : S4x64x16384.Idx) : y ∈ slotSet r ↔ (y 0).val = r.val := by
  rw [Rect.mem_set_unit]
  have h1 : (y 1).val < 64 := (y 1).isLt
  have h2 : (y 2).val < 16384 := (y 2).isLt
  constructor
  · intro H; have a0 : r.val ≤ (y 0).val ∧ (y 0).val < r.val + 1 := H 0; omega
  · intro H i; fin_cases i
    · show r.val ≤ (y 0).val ∧ (y 0).val < r.val + 1; omega
    · show 0 ≤ (y 1).val ∧ (y 1).val < 0 + 64; omega
    · show 0 ≤ (y 2).val ∧ (y 2).val < 0 + 16384; omega

/-- Two blocks share no element. -/
theorem blkSet_disjoint : ∀ b b' : Fin 8 × Fin 4, b ≠ b' → Disjoint (blkSet b) (blkSet b') := by
  intro b b' hne; rw [Finset.disjoint_left]; intro y hy hy'; rw [mem_blkSet] at hy hy'
  have h1 := b.2.isLt; have h2 := b'.2.isLt
  exact hne (Prod.ext (Fin.ext (by omega)) (Fin.ext (by omega)))
/-- The blocks make up the permanences. -/
theorem blkSet_cover : (Finset.univ : Finset (Fin 8 × Fin 4)).biUnion blkSet = Finset.univ := by
  ext y
  have h0 : (y 0).val < 2048 := (y 0).isLt
  simp only [Finset.mem_biUnion, Finset.mem_univ, true_and, iff_true]
  refine ⟨(⟨(y 0).val / 256, by omega⟩, ⟨(y 0).val / 64 % 4, by omega⟩), ?_⟩
  rw [mem_blkSet]
  show (y 0).val / 64 = 4 * ((y 0).val / 256) + (y 0).val / 64 % 4
  omega
/-- Two slots share no element. -/
theorem slotSet_disjoint : ∀ r r' : Fin 4, r ≠ r' → Disjoint (slotSet r) (slotSet r') := by
  intro r r' hne; rw [Finset.disjoint_left]; intro y hy hy'; rw [mem_slotSet] at hy hy'; exact hne (Fin.ext (hy.symm.trans hy'))
/-- The slots make up the buffer. -/
theorem slotSet_cover : (Finset.univ : Finset (Fin 4)).biUnion slotSet = Finset.univ := by
  ext y; simp only [Finset.mem_biUnion, Finset.mem_univ, true_and, iff_true]; exact ⟨(y 0).cast (by decide), by rw [mem_slotSet]; rfl⟩

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- The permanences whole are the eight groups. -/
theorem perm_eq (c : Dev nD) (P : Buf (Elt F) ((c : Thread nD τ).loc main_arg1)) :
    (((c : Thread nD τ).loc main_arg1) ↦{fullShare} P : sProp 𝕄) = bigSep Finset.univ (groupP c P) := by
  rw [Ring.pointsTo_blocks (ℓ := (c : Thread nD τ).loc main_arg1) blkSet blkSet_disjoint blkSet_cover, bigSep_univ_prod]
  exact bigSep_congr fun g _ => by
    rw [bigSep_fin4]
    simp only [← blk_set]
    rfl

omit [FloatOps F] in
theorem slotP_eq (c : Dev nD) (r : Fin 4) (f) : slotP c r f = (((c : Thread nD τ).loc cc0_scratch0) ↦[slotSet r]{fullShare} f : sProp 𝕄) :=
  congrArg (fun S => (_ ↦[S]{fullShare} f : sProp 𝕄)) (slot_set r)

/-- The buffer whole, at anything, is its four slots, each at anything; -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) slotSet slotSet_disjoint slotSet_cover f).trans (bigSep_fin4 _))) $$ H
  icases H2 with ⟨H0, H1, H2, H3⟩
  isplitl [H0]; · iexists f; iapply (entails_of_eq (slotP_eq c 0 f).symm); iexact H0
  isplitl [H1]; · iexists f; iapply (entails_of_eq (slotP_eq c 1 f).symm); iexact H1
  isplitl [H2]; · iexists f; iapply (entails_of_eq (slotP_eq c 2 f).symm); iexact H2
  iexists f; iapply (entails_of_eq (slotP_eq c 3 f).symm); iexact H3
/-- and back. -/
theorem buf_join (c : Dev nD) :
    iprop((∃ f, slotP c 0 f) ∗ (∃ f, slotP c 1 f) ∗ (∃ f, slotP c 2 f) ∗ ∃ f, slotP c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) slotSet slotSet_disjoint slotSet_cover f0)
  irw [bigSep_fin4]
  isplitl [H0]; · iexists f0; iapply (entails_of_eq (slotP_eq c 0 f0)); iexact H0
  isplitl [H1]; · iexists f1; iapply (entails_of_eq (slotP_eq c 1 f1)); iexact H1
  isplitl [H2]; · iexists f2; iapply (entails_of_eq (slotP_eq c 2 f2)); iexact H2
  iexists f3; iapply (entails_of_eq (slotP_eq c 3 f3)); iexact H3

omit [FloatOps F] in
/-- The kernel's own semaphores at zero are the slots' at zero. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3) := by
  unfold Pipeline.ownSems0; rw [bigSep_fin4]

/-- What the launch holds for the body beside its windows, piece by piece: the slots, the keys' buffer, the generator's
    register, the semaphores at zero, the permanences as found. -/
theorem held_open (V : (c : Dev nD) → (b : Ref sig .tc) → Buf (Elt F) ((c : Thread nD τ).loc b)) (c : Dev nD) :
    (Pipeline.ΦD osem spec0 {main_arg1} V c : sProp 𝕄)
      ⊢ iprop((∃ s, prngReg c s) ∗ (∃ f : Buf (Elt F) ((c : Thread nD τ).loc cc0_scratch1), ((c : Thread nD τ).loc cc0_scratch1) ↦{fullShare} f)
        ∗ bigSep Finset.univ (groupP c (V c main_arg1)) ∗ freeP c 0 ∗ freeP c 1 ∗ freeP c 2 ∗ freeP c 3) := by
  rw [Pipeline.ΦD_eq, scopedRest0_eq, ownSems0_eq, bigSep_singleton, perm_eq]
  iintro ⟨⟨Hb, Hk⟩, Hr, ⟨Hc0, Hc1, Hc2, Hc3⟩, Hp⟩
  ihave Hs := (buf_split c) $$ Hb
  icases Hs with ⟨Hs0, Hs1, Hs2, Hs3⟩
  isplitl [Hr]; · iexact Hr
  isplitl [Hk]; · iexact Hk
  isplitl [Hp]; · iexact Hp
  isplitl [Hc0 Hs0]; · isplitl [Hc0]; · iexact Hc0
                       iexact Hs0
  isplitl [Hc1 Hs1]; · isplitl [Hc1]; · iexact Hc1
                       iexact Hs1
  isplitl [Hc2 Hs2]; · isplitl [Hc2]; · iexact Hc2
                       iexact Hs2
  isplitl [Hc3]; · iexact Hc3
  iexact Hs3
/-- and the pieces make it up again. -/
theorem held_close (V : (c : Dev nD) → (b : Ref sig .tc) → Buf (Elt F) ((c : Thread nD τ).loc b)) (c : Dev nD) :
    iprop((∃ s, prngReg c s) ∗ (∃ f : Buf (Elt F) ((c : Thread nD τ).loc cc0_scratch1), ((c : Thread nD τ).loc cc0_scratch1) ↦{fullShare} f)
        ∗ bigSep Finset.univ (groupP c (V c main_arg1)) ∗ freeP c 0 ∗ freeP c 1 ∗ freeP c 2 ∗ freeP c 3)
      ⊢ (Pipeline.ΦD osem spec0 {main_arg1} V c : sProp 𝕄) := by
  rw [Pipeline.ΦD_eq, scopedRest0_eq, ownSems0_eq, bigSep_singleton, perm_eq]
  iintro ⟨Hr, Hk, Hp, ⟨Hc0, Hs0⟩, ⟨Hc1, Hs1⟩, ⟨Hc2, Hs2⟩, ⟨Hc3, Hs3⟩⟩
  isplitl [Hs0 Hs1 Hs2 Hs3 Hk]
  · isplitl [Hs0 Hs1 Hs2 Hs3]
    · iapply (buf_join c)
      isplitl [Hs0]; · iexact Hs0
      isplitl [Hs1]; · iexact Hs1
      isplitl [Hs2]; · iexact Hs2
      iexact Hs3
    iexact Hk
  isplitl [Hr]; · iexact Hr
  isplitl [Hc0 Hc1 Hc2 Hc3]
  · isplitl [Hc0]; · iexact Hc0
    isplitl [Hc1]; · iexact Hc1
    isplitl [Hc2]; · iexact Hc2
    iexact Hc3
  iexact Hp

end Cert.Proof.KernelIdeal

end
-- ==== Proof.IdealFrame.lean ====
/-
  The launch of the idealized kernel: from any memory it runs, ends with its arguments as they were and every semaphore
  at zero, and leaves the result that the body computes.
-/
module

public import proofs.«01_k».proof.Proof.IdealHeld
public import proofs.«01_k».proof.Proof.Gen.KernelIdeal.Frame

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The staging buffer of the input is a whole buffer. -/
abbrev hst0 (t : Fin cfg0.N) : (st0_0 t).IsWhole := hstage0_0 0
/-- The staging buffer of the boosts is a whole buffer. -/
abbrev hst1 (t : Fin cfg0.N) : (st0_1 t).IsWhole := hstage0_1 0
/-- The staging buffer of the result is a whole buffer. -/
abbrev hst2 (t : Fin cfg0.N) : (st0_2 t).IsWhole := hstage0_2 0
/-- The keys' buffer. -/
abbrev keysM : Memref sig .tc .vmem S2048x1 .i32 := Memref.whole cc0_scratch1

/-- The input and the boost staged. -/
abbrev xAt (c : Dev nD) (t : Fin cfg0.N) : Buf (Elt F) ((st0_0 t).view.loc (c : Thread nD τ)) := (st0_0 t).view.rep (iblk m c 0 t)
/-- The boosts staged. -/
abbrev boostAt (c : Dev nD) (t : Fin cfg0.N) : Buf (Elt F) ((st0_1 t).view.loc (c : Thread nD τ)) := (st0_1 t).view.rep (iblk m c 1 t)
/-- The keys at point `t`. -/
abbrev keysOf (c : Dev nD) (t : Fin cfg0.N) : Vec F S2048x1 .i32 :=
  keyVec c (V m c main_arg1) (st0_1 t) (maskOf c (st0_0 t) (xAt m c t)) (boostAt m c t)
/-- What the body leaves in the result's window at point `t`. -/
def outAt (c : Dev nD) (t : Fin cfg0.N) : (cfg0.win 2).block.Idx → Elt F (cfg0.win 2).elt :=
  k0_pay3 (keysOf m c t) (bisect (keysOf m c t)).1

/-- The pipeline's proof data: inputs stay, the result is the body's, the rest is held throughout. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦD osem spec0 {main_arg1} (V m) c
  q _ := fullShare
  owed _ := 0

/-- The body finds the input in its window. -/
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
/-- The body finds the boosts in their window. -/
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
/-- The body leaves the input in its window. -/
theorem after_w0 (c : Dev nD) (t : Fin cfg0.N) : (dats m 0 c).after 0 t = iblk m c 0 t := by dsimp only [dats]
/-- The body leaves the boosts in their window. -/
theorem after_w1 (c : Dev nD) (t : Fin cfg0.N) : (dats m 0 c).after 1 t = iblk m c 1 t := by dsimp only [dats]
/-- The body leaves its result in the window of the result. -/
theorem after_w2 (c : Dev nD) (t : Fin cfg0.N) : (dats m 0 c).after 2 t = outAt m c t := by dsimp only [dats]

/-! ## The body obligation -/

/-- The pipeline runs the body. -/
theorem defs_tc : (defs₀ (F := F)) .tc cfg0.body
    = fun a => bodyP (win0_0.stage (a.2 0)) (hstage0_0 0) (win0_1.stage (a.2 1)) (hstage0_1 0) (win0_2.stage (a.2 2)) (hstage0_2 0) keysM (Memref.isWhole_whole _) := rfl
/-- At a grid point it runs the body on the staged windows. -/
theorem prog_eq (t : Fin cfg0.N) : (defs₀ (F := F)) .tc cfg0.body (cfg0.bodyArgs t (cfg0.slots t))
    = bodyP (st0_0 t) (hst0 t) (st0_1 t) (hst1 t) (st0_2 t) (hst2 t) keysM (Memref.isWhole_whole _) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1, after_w2]
  rw [show (dats m 0 c).Φ t.castSucc = Pipeline.ΦD osem spec0 {main_arg1} (V m) c from rfl, show (dats m 0 c).Φ t.succ = Pipeline.ΦD osem spec0 {main_arg1} (V m) c from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, HX⟩, ⟨%d1, %g1, %hg1, HB⟩, ⟨%d2, %gO, -, HO⟩⟩
  ihave HH := (held_open (V m) c) $$ HΦ
  icases HH with ⟨Hr, ⟨%keys, HK⟩, Hp, Hf0, Hf1, Hf2, Hf3⟩
  ihave HX' := (pointsTo_rep_entails (c : Thread nD τ) (st0_0 t) g0 fullShare) $$ HX
  ihave HB' := (pointsTo_rep_entails (c : Thread nD τ) (st0_1 t) g1 fullShare) $$ HB
  rw [hg0, hg1]
  sl_rw [prog_eq t]
  iapply (bodyRun c (V m c main_arg1) (st0_0 t) (hst0 t) (st0_1 t) (hst1 t) (st0_2 t) (hst2 t) keysM (Memref.isWhole_whole _) (xAt m c t) (boostAt m c t) gO keys)
  isplitl [HX']; · iexact HX'
  isplitl [HO]; · iexact HO
  isplitl [HB' HK HW Hp Hf0 Hf1 Hf2 Hf3]
  · unfold doneAt
    isplitl [HB' HK HW]
    · isplitl [HB']; · iexact HB'
      isplitl [HK]; · irw [show keysM.view.set = Finset.univ from View.set_whole _]; iexact HK
      iexists W; iexact HW
    isplitl [Hp]; · iexact Hp
    isplitl [Hf0]; · iexact Hf0
    isplitl [Hf1]; · iexact Hf1
    isplitl [Hf2]; · iexact Hf2
    iexact Hf3
  unfold doneAt
  iintro ⟨HX, HO, ⟨HB, HK, ⟨%W', HW⟩⟩, Hp, Hf0, Hf1, Hf2, Hf3⟩
  isplitl [Hr HK Hp Hf0 Hf1 Hf2 Hf3]
  · iapply (held_close (V m) c)
    isplitl [Hr]; · iexact Hr
    isplitl [HK]; · iexists _; irw [← show keysM.view.set = Finset.univ from View.set_whole _]; iexact HK
    isplitl [Hp]; · iexact Hp
    isplitl [Hf0]; · iexact Hf0
    isplitl [Hf1]; · iexact Hf1
    isplitl [Hf2]; · iexact Hf2
    iexact Hf3
  isplitl [HW]
  · iexists W'; isplitr; · ipureintro; exact fun _ _ => Or.inl trivial
    iexact HW
  isplitl [HX]
  · iexists _; isplitr; · ipureintro; exact View.read_rep _ _
    iexact HX
  isplitl [HB]
  · iexists _; isplitr; · ipureintro; exact View.read_rep _ _
    iexact HB
  iexists _; isplitr
  · ipureintro; exact outEnd_read c (V m c main_arg1) (st0_1 t) (st0_2 t) keysM (maskOf c (st0_0 t) (xAt m c t)) (boostAt m c t) keys gO
  iexact HO

/-! ## The run -/

/-- @main around the region. -/
theorem main_around : Pipeline.HMainK (Ix := Unit) (Name := ℕ) (U := Pipeline.UD sig nD τ) (Lvl := ℕ) cfgs 0 defs₀ 𝒱₀ m (main (F := F)) (V m)
      (fun _ => Pipeline.chain ([hostOps1, hostOps1_1].map StableHlo.seq)) :=
  Pipeline.hmain_around cfgs 0 defs₀ 𝒱₀ m main [hostOps0] [hostOps1, hostOps1_1] (by simp only [List.Forall]; exact hostOps0_sub)
    (by simp only [List.Forall]; exact hostOps0_fresh) main_chain

/-- The host operations after the call do not touch the permanences. -/
theorem tail_sub : ∀ ops ∈ ([hostOps1, hostOps1_1] : List (List (HloOp τ sig (Elt F)))), ∀ op ∈ ops,
    op.bufs ⊆ Pipeline.tailRefsBut sig Pipeline.Prefetch.none spec0 {main_arg1} := by
  intro ops hops op hop
  simp only [List.mem_cons, List.mem_nil_iff, or_false] at hops
  rcases hops with rfl | rfl
  · refine Pipeline.sub_tailRefsBut Pipeline.Prefetch.none spec0 {main_arg1} op ((List.forall_iff_forall_mem.mp hostOps1_sub) op hop) (fun j => j.elim0) ?_
    simp only [hostOps1, List.mem_cons, List.mem_nil_iff, or_false] at hop
    subst hop
    intro b hb
    obtain rfl := Finset.mem_singleton.mp hb
    rw [StableHlo.reshape_bufs, Finset.mem_insert, Finset.mem_singleton, not_or]
    exact ⟨StableHlo.devRef_ne_of_ne (by decide), StableHlo.devRef_ne_of_ne (by decide)⟩
  · refine Pipeline.sub_tailRefsBut Pipeline.Prefetch.none spec0 {main_arg1} op ((List.forall_iff_forall_mem.mp hostOps1_1_sub) op hop) (fun j => j.elim0) ?_
    simp only [hostOps1_1, List.mem_cons, List.mem_nil_iff, or_false] at hop
    subst hop
    intro b hb
    obtain rfl := Finset.mem_singleton.mp hb
    rw [StableHlo.nullary_bufs, Finset.mem_singleton]
    exact StableHlo.devRef_ne_of_ne (by decide)

/-- What the host lines after the region leave in a buffer. -/
abbrev tail (c : Dev nD) (b : Ref sig .tc) : Buf (Elt F) ((c : Thread nD τ).loc b) :=
  Pipeline.afterTail₀ cfgs (dats m) 0 (V0 m) [hostOps1, hostOps1_1] c b

/-- The launch, with the state at its end as the pipeline states it. -/
theorem run_main : θ_run defs (onTc (τ := τ) (main (F := F))) (s₀ m ρ)
    (fun r => Pipeline.FramePost cfgs (dats m) 0 (tail m) r ∧ r.2.sem = fun _ => 0) :=
  Pipeline.θ_run_frame_dma_around (Q' := _) cfgs (dats m) (0 : Fin 1) launch0 osem defs₀ 𝒱₀ ownSemFacts {main_arg1} (by decide) m ρ main
    (hbody := fun c => (body_obligation m c).loose) (hshare := fun c => (dats m 0 c).share_full fun _ => rfl)
    (howed := fun _ _ => rfl) (V₀ := V0 m) (opss := [hostOps1, hostOps1_1]) (hsub := tail_sub) (hfresh := sfx_fresh) (hkeep := sfx_keeps)
    (hmain := main_around m) (hA := fun _ _ => rfl)
    (hin := fun _ => .rfl) (hout := fun _ => .rfl) (hQ' := fun _ h => h)

/-- A buffer that is no array of the pipeline and that no host line writes ends as the region found it. -/
theorem tail_keep (c : Dev nD) (b : Ref sig .tc) (ha : ∀ w, Pipeline.arrRef spec0 w ≠ b) (h0 : b ≠ main_v0) (h1 : b ≠ main_cst) :
    tail m c b = V m c b := by
  unfold tail Pipeline.afterTail₀
  rw [StableHlo.after_of_forall_not_mem (b := Proc.devRef .tc b) _ _ (List.forall_iff_forall_mem.mp (by
      simp only [hostOps1, hostOps1_1, List.flatten_cons, List.flatten_nil, List.append_nil, List.cons_append,
        List.nil_append, List.Forall, StableHlo.nullary_writes, StableHlo.reshape_writes, Finset.mem_singleton]
      exact ⟨StableHlo.devRef_ne_of_ne h0, StableHlo.devRef_ne_of_ne h1⟩)),
    Pipeline.withArrays_of_ne _ c (V0 m c) _ b ha]

/-- The run, read at the two results, the three arguments and the semaphores. -/
theorem run : θ_run defs (onTc (τ := τ) (main (F := F))) ⟨m, fun _ => 0, ρ⟩ (fun r => (∀ c : Dev nD,
      r.2.mem ((c.tc : Thread nD τ).loc main_v0) = tail m c main_v0
      ∧ r.2.mem ((c.tc : Thread nD τ).loc main_cst) = tail m c main_cst
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c).2 main_v0 (Pipeline.mem_restRefs_of main_v0 (by decide) (by decide)),
      (h.1 c).2 main_cst (Pipeline.mem_restRefs_of main_cst (by decide) (by decide)),
      ((h.1 c).2 main_arg0 (Pipeline.mem_restRefs_of main_arg0 (by decide) (by decide))).trans
        ((tail_keep m c main_arg0 (by exact (by decide : ∀ w, Pipeline.arrRef spec0 w ≠ main_arg0)) (by decide) (by decide)).trans (V_main_arg0 m c)),
      ((h.1 c).2 main_arg1 (Pipeline.mem_restRefs_of main_arg1 (by decide) (by decide))).trans
        ((tail_keep m c main_arg1 (by exact (by decide : ∀ w, Pipeline.arrRef spec0 w ≠ main_arg1)) (by decide) (by decide)).trans (V_main_arg1 m c)),
      ((h.1 c).2 main_arg2 (Pipeline.mem_restRefs_of main_arg2 (by decide) (by decide))).trans
        ((tail_keep m c main_arg2 (by exact (by decide : ∀ w, Pipeline.arrRef spec0 w ≠ main_arg2)) (by decide) (by decide)).trans (V_main_arg2 m c))⟩,
    h.2⟩) (run_main m ρ)

end Cert.Proof.KernelIdeal

end
-- ==== Proof.Ranking.lean ====
/-
  Who is among the first `k` when positions are ranked by a score, the greater score first and the lower position
  first among equals: read off a key that packs the score above the position, and off a threshold that a bisection of
  the keys ends with.
-/
module

public import Idealize.ShloMosaic.Lib.SortPrefix

@[expose] public section

namespace Cert.Proof.Ranking

variable {n : ℕ}

/-- Position `a` is ranked ahead of position `b`. -/
def ahead (score : Fin n → ℕ) (a b : Fin n) : Prop := score b < score a ∨ (score a = score b ∧ a < b)

instance (score : Fin n → ℕ) (a b : Fin n) : Decidable (ahead score a b) := by unfold ahead; infer_instance

/-- How many positions are ranked ahead of `c`. -/
def rank (score : Fin n → ℕ) (c : Fin n) : ℕ := (Finset.univ.filter fun a => ahead score a c).card

/-- How many keys are at least `t`. -/
def count (key : Fin n → ℕ) (t : ℕ) : ℕ := (Finset.univ.filter fun c => t ≤ key c).card

/-- The score above the position, in one number: the lower position gives the greater key. -/
def packed (score : Fin n → ℕ) (c : Fin n) : ℕ := score c * n + (n - 1 - c.val)

/-- The greater packed key is the one ranked ahead. -/
theorem packed_lt_iff (score : Fin n → ℕ) (a b : Fin n) : packed score b < packed score a ↔ ahead score a b := by
  unfold packed ahead
  have ha := a.isLt
  have hb := b.isLt
  rw [Fin.lt_def]
  constructor
  · intro h
    rcases Nat.lt_trichotomy (score b) (score a) with h1 | h1 | h1
    · exact Or.inl h1
    · exact Or.inr ⟨h1.symm, by rw [h1] at h; omega⟩
    · exfalso
      have h2 : (score a + 1) * n ≤ score b * n := Nat.mul_le_mul_right n h1
      rw [Nat.add_mul, Nat.one_mul] at h2
      omega
  · rintro (h1 | ⟨h1, h2⟩)
    · have h2 : (score b + 1) * n ≤ score a * n := Nat.mul_le_mul_right n h1
      rw [Nat.add_mul, Nat.one_mul] at h2
      omega
    · rw [h1]; omega

/-- A threshold that at least `k` keys reach, while fewer than `k` exceed it, is reached by exactly the positions that
    fewer than `k` are ranked ahead of. -/
theorem threshold_iff (score : Fin n → ℕ) (k t : ℕ) (h1 : k ≤ count (packed score) t) (h2 : count (packed score) (t + 1) < k)
    (c : Fin n) : t ≤ packed score c ↔ rank score c < k := by
  unfold rank
  simp only [← packed_lt_iff]
  unfold count at h1 h2
  constructor
  · intro h
    refine lt_of_le_of_lt (Finset.card_le_card fun a ha => ?_) h2
    simp only [Finset.mem_filter, Finset.mem_univ, true_and] at ha ⊢
    omega
  · intro h
    by_contra hc
    refine absurd (lt_of_le_of_lt (h1.trans (Finset.card_le_card fun a ha => ?_)) h) (lt_irrefl k)
    simp only [Finset.mem_filter, Finset.mem_univ, true_and] at ha ⊢
    omega

/-- One step of the bisection for the greatest threshold that at least `k` keys reach. -/
def step (key : Fin n → ℕ) (k : ℕ) (p : ℕ × ℕ) : ℕ × ℕ :=
  if k ≤ count key ((p.1 + p.2) / 2) then ((p.1 + p.2) / 2, p.2) else (p.1, (p.1 + p.2) / 2)

/-- The bisection's invariant with `d` steps to go: at least `k` keys reach the lower end, fewer the upper, and the two
    are `2 ^ d` apart. -/
def Bracket (key : Fin n → ℕ) (k d : ℕ) (p : ℕ × ℕ) : Prop :=
  k ≤ count key p.1 ∧ count key p.2 < k ∧ p.2 = p.1 + 2 ^ d

/-- A step halves the bracket. -/
theorem bracket_step (key : Fin n → ℕ) (k d : ℕ) (p : ℕ × ℕ) (h : Bracket key k (d + 1) p) : Bracket key k d (step key k p) := by
  obtain ⟨h1, h2, h3⟩ := h
  have hm : (p.1 + p.2) / 2 = p.1 + 2 ^ d := by rw [h3, pow_succ]; omega
  unfold step
  rw [hm]
  split
  · rename_i hk
    exact ⟨hk, h2, by show p.2 = p.1 + 2 ^ d + 2 ^ d; rw [h3, pow_succ]; omega⟩
  · rename_i hk
    exact ⟨h1, Nat.lt_of_not_le hk, rfl⟩

/-- From zero to `2 ^ d`, when there are at least `k` keys and all lie below `2 ^ d`. -/
theorem bracket_start (key : Fin n → ℕ) (k d : ℕ) (hk : k ≤ n) (hk0 : 0 < k) (hkey : ∀ c, key c < 2 ^ d) : Bracket key k d (0, 2 ^ d) := by
  refine ⟨?_, ?_, by simp⟩
  · show k ≤ count key 0
    unfold count
    rw [Finset.filter_true_of_mem (fun c _ => Nat.zero_le _), Finset.card_univ, Fintype.card_fin]
    exact hk
  · show count key (2 ^ d) < k
    unfold count
    rw [Finset.filter_false_of_mem (fun c _ => Nat.not_le.mpr (hkey c)), Finset.card_empty]
    exact hk0

end Cert.Proof.Ranking
-- ==== Proof.Overlap.lean ====
/-
  The score of a column over plain functions: how many inputs are on whose permanence reaches the threshold, counted
  only when the column is boosted. The kernel and the reference both compute it as a sum of products of zeros and ones,
  times the boost.
-/
module

public import Idealize.ShloMosaic.PureOps.Ideal.Laws

@[expose] public section

noncomputable section

namespace Cert.Proof.Overlap

open Idealize.ShloMosaic

/-- The permanence at which a synapse is connected. -/
def connected : EReal := Ideal.ofBits .f32 0x3E0F5C29#32

/-- How many inputs are on and connected to column `c`. -/
def overlap (x : Fin 16384 → BitVec 32) (p : Fin 2048 → Fin 16384 → EReal) (c : Fin 2048) : ℕ :=
  (Finset.univ.filter fun j : Fin 16384 => connected ≤ p c j ∧ x j ≠ 0#32).card

open Classical in
/-- The overlap where the boost is not zero, zero where it is. -/
def score (x : Fin 16384 → BitVec 32) (p : Fin 2048 → Fin 16384 → EReal) (boost : Fin 2048 → EReal) (c : Fin 2048) : ℕ :=
  if boost c = 0 then 0 else overlap x p c

/-- A score is at most the number of inputs. -/
theorem score_le (x : Fin 16384 → BitVec 32) (p : Fin 2048 → Fin 16384 → EReal) (boost : Fin 2048 → EReal) (c : Fin 2048) :
    score x p boost c ≤ 16384 := by
  unfold score overlap
  split
  · exact Nat.zero_le _
  · exact (Finset.card_le_univ _).trans (by simp)

/-- A bit as an extended real. -/
def bit (b : BitVec 1) : EReal := ((b.toNat : ℝ) : EReal)

/-- A bit widened and read as a signed integer is the bit. -/
theorem sitofp_widened (b : BitVec 1) : (FloatOps.sitofp .f32 (b.setWidth 32) : Ideal .f32) = bit b := by
  have h : ((b.setWidth 32).toInt : ℝ) = (b.toNat : ℝ) := by
    have e : ∀ b : BitVec 1, (b.setWidth 32).toInt = (b.toNat : ℤ) := by decide
    rw [e]; rfl
  exact congrArg ((↑·) : ℝ → EReal) h

/-- A bit read as an unsigned integer is the bit. -/
theorem uitofp_bit (b : BitVec 1) : (FloatOps.uitofp .f32 b : Ideal .f32) = bit b := rfl

/-- A sum of products of bits counts the places where both are set. -/
theorem sum_bits {n : ℕ} (a b : Fin n → BitVec 1) :
    ∑ j, bit (a j) * bit (b j) = (((Finset.univ.filter fun j => a j = 1#1 ∧ b j = 1#1).card : ℝ) : EReal) := by
  have h : ∀ u v : BitVec 1, bit u * bit v = (((if u = 1#1 ∧ v = 1#1 then 1 else 0 : ℕ) : ℝ) : EReal) := fun u v => by
    have e : ∀ u v : BitVec 1, u.toNat * v.toNat = if u = 1#1 ∧ v = 1#1 then 1 else 0 := by decide
    unfold bit
    rw [← EReal.coe_mul, ← Nat.cast_mul, e]
  rw [Finset.card_filter, Finset.sum_congr rfl fun j _ => h (a j) (b j), Nat.cast_sum]
  generalize (Finset.univ : Finset (Fin n)) = S
  induction S using Finset.induction_on with
  | empty => simp
  | insert i S hi ih => rw [Finset.sum_insert hi, Finset.sum_insert hi, ih, EReal.coe_add]

/-- The bit that a permanence reaches the threshold. -/
def reaches (p : EReal) : BitVec 1 := Ideal.cmp .oge p connected
/-- The bit that an input is on. -/
def isOn (x : BitVec 32) : BitVec 1 := IntOp.cmpi .ne x 0#32

/-- The bit is set exactly when the threshold is reached. -/
theorem reaches_iff (p : EReal) : reaches p = 1#1 ↔ connected ≤ p := by
  show BitVec.ofBool (decide (connected ≤ p)) = 1#1 ↔ _
  by_cases h : connected ≤ p <;> simp [h]
/-- The bit is set exactly when the input is not zero. -/
theorem isOn_iff (x : BitVec 32) : isOn x = 1#1 ↔ x ≠ 0#32 := by
  show BitVec.ofBool (x != 0#32) = 1#1 ↔ _
  have e : (x != 0#32) = decide (x ≠ 0#32) := by by_cases h : x = 0#32 <;> simp [h, bne]
  rw [e]
  by_cases h : x = 0#32 <;> simp [h]

/-- The sum both programs form is the overlap. -/
theorem sum_eq_overlap (x : Fin 16384 → BitVec 32) (p : Fin 2048 → Fin 16384 → EReal) (c : Fin 2048) :
    ∑ j, bit (reaches (p c j)) * bit (isOn (x j)) = ((overlap x p c : ℝ) : EReal) := by
  rw [sum_bits]
  unfold overlap
  simp only [reaches_iff, isOn_iff]

/-- Times a boost of zero or one it is the score. -/
theorem sum_eq_score (x : Fin 16384 → BitVec 32) (p : Fin 2048 → Fin 16384 → EReal) (boost : Fin 2048 → EReal)
    (c : Fin 2048) (h : boost c = 0 ∨ boost c = 1) :
    (∑ j, bit (reaches (p c j)) * bit (isOn (x j))) * boost c = ((score x p boost c : ℝ) : EReal) := by
  rw [sum_eq_overlap]
  unfold score
  rcases h with h | h
  · rw [if_pos h, h, mul_zero, Nat.cast_zero, EReal.coe_zero]
  · rw [if_neg (by rw [h]; exact one_ne_zero), h, mul_one]

/-- A small whole number truncates to its own word. -/
theorem fptosi_nat (n : ℕ) (h : n ≤ 16384) : FloatOps.fptosi (F := Ideal) (φ := .f32) 32 ((n : ℝ) : EReal) = BitVec.ofNat 32 n := by
  show Ideal.fptosi 32 ((n : ℝ) : EReal) = _
  unfold Ideal.fptosi
  rw [Ideal.toIntClamped_coe, if_pos (Nat.cast_nonneg n), Int.floor_natCast, min_eq_right (by push_cast; omega), max_eq_right (by push_cast; omega)]
  exact BitVec.ofInt_natCast 32 n

end Cert.Proof.Overlap
-- ==== Proof.IdealRow.lean ====
/-
  What the idealized kernel computes of one row of a block of permanences: the word of the row's packed key.
-/
module

public import proofs.«01_k».proof.Proof.IdealBody
public import proofs.«01_k».proof.Proof.Ranking
public import proofs.«01_k».proof.Proof.Overlap
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe
open Cert.Proof.Ranking Cert.Proof.Overlap

/-- The indicators of a block's permanences times the mask, summed along a row. -/
theorem row_sum (v : Vec Ideal S1x64x16384 .f32) (mask : FVec Ideal S1x16384 .f32) (i : Fin 64)
    (x : Fin 16384 → BitVec 32) (row : Fin 16384 → EReal)
    (hmask : ∀ j, mask (ix2 0 j) = bit (isOn (x j))) (hrow : ∀ j, v (ix3 0 i j) = row j) :
    matmul dot_S64x16384_S1x16384_S64x1_1_1_0_0_n_n none
      (sitofp .f32 (extui 32 (cmpf .oge (shapeCast S64x16384 v shapeCasts_S1x64x16384_S64x16384) (broadcast S64x16384 (Scalar.ofBits (F := Ideal) .f32 0x3E0F5C29#32))) natLt_1_32))
      mask (constant S64x1 .f32 0x00000000#32) (ix2 i 0)
      = ∑ j, bit (reaches (row j)) * bit (isOn (x j)) := by
  pointwise
  refine Finset.sum_congr rfl fun j _ => ?_
  rw [hmask, sitofp_widened, hrow]
  rfl

variable (x : Fin 16384 → BitVec 32) (p : Fin 2048 → Fin 16384 → EReal) (boost : Fin 2048 → EReal)

/-- What row `i` of a block holding column `c` is turned into, truncated: the word of the column's score. -/
theorem row_score (v : Vec Ideal S1x64x16384 .f32) (mask : FVec Ideal S1x16384 .f32) (b : Vec Ideal S64x1 .f32) (i : Fin 64) (c : Fin 2048)
    (hmask : ∀ j, mask (ix2 0 j) = bit (isOn (x j))) (hrow : ∀ j, v (ix3 0 i j) = p c j) (hb : b (ix2 i 0) = boost c)
    (h01 : boost c = 0 ∨ boost c = 1) :
    fptosi 32 (mulf (matmul dot_S64x16384_S1x16384_S64x1_1_1_0_0_n_n none
      (sitofp .f32 (extui 32 (cmpf .oge (shapeCast S64x16384 v shapeCasts_S1x64x16384_S64x16384) (broadcast S64x16384 (Scalar.ofBits (F := Ideal) .f32 0x3E0F5C29#32))) natLt_1_32))
      mask (constant S64x1 .f32 0x00000000#32)) (shapeCast S64x1 b shapeCasts_S64x1_S64x1)) (ix2 i 0)
      = BitVec.ofNat 32 (score x p boost c) := by
  have h1 := row_sum v mask i x (p c) hmask hrow
  have h2 := sum_eq_score x p boost c h01
  rw [← h1, ← hb] at h2
  refine Eq.trans ?_ (fptosi_nat (score x p boost c) (score_le x p boost c))
  rw [shapeCast_self]
  exact congrArg (FloatOps.fptosi (F := Ideal) (φ := .f32) 32) h2

/-- The number of a row, as the kernel computes it. -/
theorem row_number (k : Fin k0_t1_loop.trips) (r : Fin 4) (i : Fin 64) :
    addi (broadcast S64x1 (Scalar.muli (Scalar.addi (Scalar.muli (Scf.iv 0#32 1#32 k) 4#32) (BitVec.ofNat 32 r.val)) 64#32)) (iota .tc S64x1 32 [0] iota_S64x1_d0_w32) (ix2 i 0)
      = BitVec.ofNat 32 (256 * k.val + 64 * r.val + i.val) := by
  pointwise
  show ((0#32 + BitVec.ofNat 32 k.val * 1#32) * 4#32 + BitVec.ofNat 32 r.val) * 64#32 + BitVec.ofNat 32 i.val = _
  rw [BitVec.zero_add, BitVec.mul_one, ← BitVec.ofNat_mul, ← BitVec.ofNat_add, ← BitVec.ofNat_mul, ← BitVec.ofNat_add]
  congr 1
  ring

/-- The packed key from the word of the score and the word of the column. -/
theorem key_word (s n : IVec S64x1 32) (i : Fin 64) (c : Fin 2048) (hs : s (ix2 i 0) = BitVec.ofNat 32 (score x p boost c))
    (hn : n (ix2 i 0) = BitVec.ofNat 32 c.val) :
    addi (muli s (broadcast S64x1 2048#32)) (subi (broadcast S64x1 2047#32) n) (ix2 i 0) = BitVec.ofNat 32 (packed (score x p boost) c) := by
  show s (ix2 i 0) * 2048#32 + (2047#32 - n (ix2 i 0)) = _
  have hc := c.isLt
  rw [hs, hn, BitVec.ofNat_sub_ofNat_of_le 2047 c.val (by omega) (by omega), ← BitVec.ofNat_mul, ← BitVec.ofNat_add]
  rfl

/-- A packed key is below `2 ^ 26`. -/
theorem packed_lt (c : Fin 2048) : packed (score x p boost) c < 2 ^ 26 := by
  have h := score_le x p boost c
  unfold packed
  omega

end Cert.Proof.KernelIdeal
-- ==== Proof.IdealLoads.lean ====
/-
  What the idealized kernel's loads give: a slot of the buffer holds 64 rows of the permanences, and the boost is read at
  the same rows. So each key block holds the words of its columns' packed keys.
-/
module

public import proofs.«01_k».proof.Proof.IdealKeys
public import proofs.«01_k».proof.Proof.IdealRow
public import Idealize.ShloMosaic.Lib.ValueLayout

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Rounds
open Cert.Proof.Ranking Cert.Proof.Overlap

variable (c : Dev nD) (P : Buf (Elt Ideal) (permM.view.loc (c : Thread nD τ)))
  (arg1 : Memref sig .tc .vmem S2048x1 .f32)
  (mask : FVec Ideal S1x16384 .f32)
  (b : Buf (Elt Ideal) (arg1.view.loc (c : Thread nD τ)))

/-- A row of a slot, read through the buffer, is the row read through the slot. -/
theorem slot_row (r : Fin 4) (f : Buf (Elt Ideal) ((slot r).view.loc (c : Thread nD τ))) (i : Fin 64) (j : Fin 16384) :
    bufM.view.readAt (Elt Ideal) (Rect.unit (s := S4x64x16384) (slotOff r) S1x64x16384.size (slotOff_inb r)).toLoadRect f (ix3 0 i j)
      = (slot r).view.read (Elt Ideal) f (ix2 i j) := by
  have e : Shape.reshapeEquiv (squeezes_S1x64x16384_S64x16384).numel_eq (ix2 i j) = ix3 0 i j := ValueIdx.reshapeEquiv_ix2_1ab _ i j
  show _ = (bufM.view.slice (Rect.unit (s := S4x64x16384) (slotOff r) S1x64x16384.size (slotOff_inb r))).read (Elt Ideal) f
    (Shape.reshapeEquiv (squeezes_S1x64x16384_S64x16384).numel_eq (ix2 i j))
  rw [e]
  rfl

/-- A row of a block is a row of the permanences. -/
theorem block_row (g : Fin 8) (r : Fin 4) (i : Fin 64) (j : Fin 16384) (n : Fin 2048) (hn : n.val = 256 * g.val + 64 * r.val + i.val) :
    (blk g r).view.read (Elt Ideal) P (ix2 i j) = P (ix2 n j) := by
  have e : (Rect.unit (s := S2048x16384) (blkOff g r) S64x16384.size (blkOff_inb g r)).emb (ix2 i j) = ix2 n j := by
    funext a
    apply Fin.ext
    fin_cases a
    · show 256 * g.val + 64 * r.val + 1 * i.val = n.val
      omega
    · show 0 + 1 * j.val = j.val
      omega
  exact congrArg P e

/-- What a trip loads of its slot `r`: the rows of the permanences its block holds. -/
theorem slotRead_at (g : Fin 8) (r : Fin 4) (i : Fin 64) (j : Fin 16384) (n : Fin 2048) (hn : n.val = 256 * g.val + 64 * r.val + i.val) :
    slotRead c P g r (ix3 0 i j) = P (ix2 n j) := by
  refine (slot_row c r _ i j).trans ?_
  have h : (slot r).view.read (Elt Ideal) (landed c P g r (slot r).view.junk) = words c P g r := View.read_writes_whole _ _ _
  rw [h]
  exact block_row c P g r i j n hn

/-- What a trip loads of the boost for its block `r`. -/
theorem boostRead_at (k : Fin k0_t1_loop.trips) (r : Fin 4) (i : Fin 64) (n : Fin 2048) (hn : n.val = 256 * k.val + 64 * r.val + i.val) :
    boostRead c arg1 b k r (ix2 i 0) = arg1.view.read (Elt Ideal) b (ix2 n 0) := by
  have e : (rowsAt k r).emb (ix2 i 0) = ix2 n 0 := by
    funext a
    apply Fin.ext
    have ho := k0_off2_eq k r
    fin_cases a
    · show k0_off2 k (BitVec.ofNat 32 r.val) 0 + 1 * i.val = n.val
      rw [ho]
      show 256 * k.val + 64 * r.val + 1 * i.val = n.val
      omega
    · show k0_off2 k (BitVec.ofNat 32 r.val) 1 + 1 * 0 = 0
      rw [ho]
      rfl
  exact congrArg (arg1.view.read (Elt Ideal) b) e

section Keys
variable (x : Fin 16384 → BitVec 32) (p : Fin 2048 → Fin 16384 → EReal) (boost : Fin 2048 → EReal)
  (hmask : ∀ j, mask (ix2 0 j) = bit (isOn (x j))) (hP : ∀ n j, P (ix2 n j) = p n j)
  (hb : ∀ n, arg1.view.read (Elt Ideal) b (ix2 n 0) = boost n) (h01 : ∀ n, boost n = 0 ∨ boost n = 1)
include hmask hP hb h01

/-- Row `i` of block `r` of trip `k`: the word of the packed key of its column. -/
theorem keyBlock_at (k : Fin k0_t1_loop.trips) (r : Fin 4) (i : Fin 64) (n : Fin 2048) (hn : n.val = 256 * k.val + 64 * r.val + i.val) :
    keyBlock c P arg1 mask b k r (ix2 i 0) = BitVec.ofNat 32 (packed (score x p boost) n) := by
  have hg : n.val = 256 * (Ring.bk 8 k.val).val + 64 * r.val + i.val := by
    rw [Ring.bk_val (Nat.lt_of_lt_of_eq k.isLt trips_eq)]; exact hn
  have hs := row_score x p boost (slotRead c P (Ring.bk 8 k.val) r) mask (boostRead c arg1 b k r) i n hmask
    (fun j => (slotRead_at c P _ r i j n hg).trans (hP n j)) ((boostRead_at c arg1 b k r i n hn).trans (hb n)) (h01 n)
  have hw := key_word x p boost _ _ i n hs ((row_number k r i).trans (congrArg (BitVec.ofNat 32) hn.symm))
  fin_cases r
  · show k0_pay4 mask 0#32 1#32 k (slotRead c P (Ring.bk 8 k.val) 0) (boostRead c arg1 b k 0) (ix2 i 0) = _
    unfold k0_pay4
    dsimp only
    rw [shapeCast_self]
    exact hw
  · show k0_pay6 (k0_pay5 mask (Scf.iv 0#32 1#32 k) (slotRead c P (Ring.bk 8 k.val) 1) (boostRead c arg1 b k 1)) (ix2 i 0) = _
    unfold k0_pay6 k0_pay5
    dsimp only
    rw [shapeCast_self]
    exact hw
  · show k0_pay8 (k0_pay7 mask (Scf.iv 0#32 1#32 k) (slotRead c P (Ring.bk 8 k.val) 2) (boostRead c arg1 b k 2)) (ix2 i 0) = _
    unfold k0_pay8 k0_pay7
    dsimp only
    rw [shapeCast_self]
    exact hw
  · show k0_pay1 (k0_pay9 (Scf.iv 0#32 1#32 k)) (k0_pay10 mask (slotRead c P (Ring.bk 8 k.val) 3) (boostRead c arg1 b k 3)) k0_pay11 (ix2 i 0) = _
    unfold k0_pay1 k0_pay9 k0_pay10 k0_pay11
    dsimp only
    rw [shapeCast_self]
    exact hw

/-- The 2048 keys are the words of the columns' packed keys. -/
theorem keyVec_at (n : Fin 2048) : keyVec c P arg1 mask b (ix2 n 0) = BitVec.ofNat 32 (packed (score x p boost) n) :=
  keyBlock_at c P arg1 mask b x p boost hmask hP hb h01 _ _ _ n (by
    show n.val = 256 * (n.val / 256) + 64 * (n.val % 256 / 64) + n.val % 64
    omega)

end Keys

end Cert.Proof.KernelIdeal
-- ==== Proof.IdealBisect.lean ====
/-
  The bisection of the idealized kernel on keys that are words of numbers below `2 ^ 26`: it ends with a threshold that
  at least 90 keys reach and fewer than 90 exceed.
-/
module

public import proofs.«01_k».proof.Proof.IdealBody
public import proofs.«01_k».proof.Proof.Ranking
public import Idealize.ShloMosaic.Lib.WordSum
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe
open Cert.Proof.Ranking

variable {F : FTy → Type} [FloatOps F]

/-- The middle of an interval, as the kernel computes it: the sum divided by two, rounded down whatever its sign. -/
def midWord (a b : BitVec 32) : BitVec 32 :=
  let sum := Scalar.addi a b
  let quot := Scalar.divsi sum 2#32
  let signs := Scalar.cmpi .ne
    (Scalar.subi (Scalar.extui (Scalar.cmpi .sgt sum 0#32) : BitVec 32) (Scalar.extui (Scalar.cmpi .slt sum 0#32)))
    (Scalar.subi (Scalar.extui (Scalar.cmpi .sgt 2#32 0#32)) (Scalar.extui (Scalar.cmpi .slt 2#32 0#32)))
  Scalar.select (Scalar.andi signs (Scalar.cmpi .ne (Scalar.remsi sum 2#32) 0#32)) (Scalar.subi quot 1#32) quot

/-- The word of a small number reads, signed, as that number. -/
theorem toInt_small (a : ℕ) (h : a < 2 ^ 31) : (BitVec.ofNat 32 a).toInt = a := by
  rw [BitVec.toInt_eq_toNat_cond, BitVec.toNat_ofNat, Nat.mod_eq_of_lt (by omega), if_pos (by omega)]

/-- Words of small numbers compare as the numbers do. -/
theorem sge_small (a b : ℕ) (ha : a < 2 ^ 31) (hb : b < 2 ^ 31) :
    IntOp.cmpi .sge (BitVec.ofNat 32 a) (BitVec.ofNat 32 b) = BitVec.ofBool (decide (b ≤ a)) := by
  show BitVec.ofBool ((BitVec.ofNat 32 b).sle (BitVec.ofNat 32 a)) = _
  rw [BitVec.sle_eq_decide, toInt_small a ha, toInt_small b hb]
  congr 1
  exact decide_eq_decide.mpr Int.ofNat_le

/-- On words of small numbers the middle is the word of the middle. -/
theorem midWord_small (a b : ℕ) (h : a + b < 2 ^ 31) : midWord (BitVec.ofNat 32 a) (BitVec.ofNat 32 b) = BitVec.ofNat 32 ((a + b) / 2) := by
  have hs : Scalar.addi (BitVec.ofNat 32 a) (BitVec.ofNat 32 b) = BitVec.ofNat 32 (a + b) := (BitVec.ofNat_add a b).symm
  have hmsb : (BitVec.ofNat 32 (a + b)).msb = false := by
    rw [BitVec.msb_eq_false_iff_two_mul_lt, BitVec.toNat_ofNat, Nat.mod_eq_of_lt (by omega)]; omega
  have hq : Scalar.divsi (BitVec.ofNat 32 (a + b)) 2#32 = BitVec.ofNat 32 ((a + b) / 2) := by
    show (if IntOp.SDivCorner _ _ then _ else (BitVec.ofNat 32 (a + b)).sdiv 2#32) = _
    rw [if_neg (by unfold IntOp.SDivCorner; simp), BitVec.sdiv_eq, hmsb]
    show (BitVec.ofNat 32 (a + b)).udiv 2#32 = _
    apply BitVec.eq_of_toNat_eq
    simp only [BitVec.udiv_eq, BitVec.toNat_udiv, BitVec.toNat_ofNat]
    rw [Nat.mod_eq_of_lt (show a + b < 2 ^ 32 by omega), show 2 % 2 ^ 32 = 2 from rfl]
    omega
  have hr : Scalar.remsi (BitVec.ofNat 32 (a + b)) 2#32 = BitVec.ofNat 32 ((a + b) % 2) := by
    show (if IntOp.SDivCorner _ _ then _ else (BitVec.ofNat 32 (a + b)).srem 2#32) = _
    rw [if_neg (by unfold IntOp.SDivCorner; simp), BitVec.srem_eq, hmsb]
    show (BitVec.ofNat 32 (a + b)) % 2#32 = _
    apply BitVec.eq_of_toNat_eq
    simp only [BitVec.toNat_umod, BitVec.toNat_ofNat]
    rw [Nat.mod_eq_of_lt (show a + b < 2 ^ 32 by omega), show 2 % 2 ^ 32 = 2 from rfl]
    omega
  unfold midWord
  dsimp only
  rw [hs, hq, hr]
  rcases Nat.eq_zero_or_pos (a + b) with h0 | hpos
  · rw [h0]; decide
  · have h1 : Scalar.cmpi .sgt (BitVec.ofNat 32 (a + b)) 0#32 = 1#1 := by
      show BitVec.ofBool ((0#32).slt (BitVec.ofNat 32 (a + b))) = 1#1
      rw [BitVec.slt_eq_decide, toInt_small _ h, show (0#32).toInt = 0 from rfl, decide_eq_true (by omega)]
      rfl
    have h2 : Scalar.cmpi .slt (BitVec.ofNat 32 (a + b)) 0#32 = 0#1 := by
      show BitVec.ofBool ((BitVec.ofNat 32 (a + b)).slt 0#32) = 0#1
      rw [BitVec.slt_eq_decide, toInt_small _ h, show (0#32).toInt = 0 from rfl, decide_eq_false (by omega)]
      rfl
    rw [h1, h2]
    have e : (Scalar.cmpi .ne (Scalar.subi (Scalar.extui 1#1 : BitVec 32) (Scalar.extui 0#1))
        (Scalar.subi (Scalar.extui (Scalar.cmpi .sgt 2#32 0#32)) (Scalar.extui (Scalar.cmpi .slt 2#32 0#32)))) = 0#1 := by decide
    rw [e]
    show (if (0#1 &&& _) = 1 then _ else _) = _
    rw [BitVec.zero_and]
    rfl

/-- The indicator of a key that reaches `t`, at its place in the array the kernel sums. -/
theorem indicator_at (v : Vec F S2048x1 .i32) (key : Fin 2048 → ℕ) (hv : ∀ c : Fin 2048, v (ix2 c 0) = BitVec.ofNat 32 (key c)) (hkey : ∀ c, key c < 2 ^ 31)
    (t : ℕ) (ht : t < 2 ^ 31) (c : Fin 2048) :
    shapeCast S1x2048x1 (extui 32 (cmpi .sge v (broadcast S2048x1 (BitVec.ofNat 32 t))) natLt_1_32) shapeCasts_S2048x1_S1x2048x1 (ix3 0 c 0)
      = (BitVec.ofBool (decide (t ≤ key c))).setWidth 32 := by
  pointwise
  show (IntOp.cmpi .sge (v (ix2 c 0)) (BitVec.ofNat 32 t)).setWidth 32 = _
  rw [hv, sge_small _ _ (hkey c) ht]

/-- The kernel's sum of the indicators is the number of keys that reach `t`. -/
theorem sum_indicators (v : Vec F S2048x1 .i32) (key : Fin 2048 → ℕ) (hv : ∀ c : Fin 2048, v (ix2 c 0) = BitVec.ofNat 32 (key c)) (hkey : ∀ c, key c < 2 ^ 31)
    (t : ℕ) (ht : t < 2 ^ 31) (j : S1.Idx) :
    multiReductionI .add [1, 2] S1
      (shapeCast S1x2048x1 (extui 32 (cmpi .sge v (broadcast S2048x1 (BitVec.ofNat 32 t))) natLt_1_32) shapeCasts_S2048x1_S1x2048x1)
      0#32 reduces_S1x2048x1_S1 rfl j = BitVec.ofNat 32 (Ranking.count key t) := by
  have hsub : ∀ i : S1.Idx, i = j := fun i => funext fun d => Fin.ext (by
    have hi := (i d).isLt
    have hj := (j d).isLt
    fin_cases d
    change _ < 1 at hi hj
    omega)
  have hsum : ∀ g : S1x2048x1.Idx → ℕ, (∑ i : S1x2048x1.Idx, g i) = ∑ c : Fin 2048, g (ix3 0 c 0) := fun g => by
    rw [sum_idx3]
    simp
  have hone : ∀ c : Fin 2048, ((BitVec.ofBool (decide (t ≤ key c))).setWidth 32).toNat = if t ≤ key c then 1 else 0 := fun c => by
    by_cases h : t ≤ key c <;> simp [h]
  have htot : ∑ i ∈ Finset.univ.filter (fun i : S1x2048x1.Idx => reduces_S1x2048x1_S1.drop i = j),
      (shapeCast S1x2048x1 (extui 32 (cmpi .sge v (broadcast S2048x1 (BitVec.ofNat 32 t))) natLt_1_32) shapeCasts_S2048x1_S1x2048x1 i).toNat
        = Ranking.count key t := by
    rw [Finset.filter_true_of_mem (fun i _ => hsub _), hsum]
    unfold Ranking.count
    rw [Finset.card_filter]
    exact Finset.sum_congr rfl fun c _ => by rw [indicator_at v key hv hkey t ht c]; exact hone c
  have hle : Ranking.count key t ≤ 2048 := by
    unfold Ranking.count
    exact (Finset.card_le_univ _).trans (by simp)
  apply BitVec.eq_of_toNat_eq
  rw [BitVec.toNat_ofNat, Nat.mod_eq_of_lt (by omega)]
  exact (WordSum.toNat_multiReductionI_add _ reduces_S1x2048x1_S1 rfl j (lt_of_eq_of_lt htot (by omega))).trans htot

/-- The kernel's count of the keys that reach the middle. -/
theorem count_word (v : Vec F S2048x1 .i32) (key : Fin 2048 → ℕ) (hv : ∀ c : Fin 2048, v (ix2 c 0) = BitVec.ofNat 32 (key c)) (hkey : ∀ c, key c < 2 ^ 31)
    (a b : ℕ) (h : a + b < 2 ^ 31) :
    extractAt ![0, 0, 0] (k0_pay2 v (BitVec.ofNat 32 a) (BitVec.ofNat 32 b)) inpos_S1x1x1_p0_0_0 = BitVec.ofNat 32 (Ranking.count key ((a + b) / 2)) := by
  have hm := midWord_small a b h
  unfold midWord at hm
  dsimp only at hm
  unfold k0_pay2
  dsimp only
  rw [hm]
  exact sum_indicators v key hv hkey _ (by omega) _

/-- One step of the kernel's bisection is the step on numbers. -/
theorem halve_small (v : Vec F S2048x1 .i32) (key : Fin 2048 → ℕ) (hv : ∀ c : Fin 2048, v (ix2 c 0) = BitVec.ofNat 32 (key c)) (hkey : ∀ c, key c < 2 ^ 31)
    (p : ℕ × ℕ) (h : p.1 + p.2 < 2 ^ 31) :
    halve v (BitVec.ofNat 32 p.1, BitVec.ofNat 32 p.2) = (BitVec.ofNat 32 (step key 90 p).1, BitVec.ofNat 32 (step key 90 p).2) := by
  have hm := midWord_small p.1 p.2 h
  unfold midWord at hm
  dsimp only at hm
  have hle : Ranking.count key ((p.1 + p.2) / 2) ≤ 2048 := by
    unfold Ranking.count
    exact (Finset.card_le_univ _).trans (by simp)
  unfold halve
  dsimp only
  rw [hm, count_word v key hv hkey p.1 p.2 h]
  have hc : Scalar.cmpi .sge (BitVec.ofNat 32 (Ranking.count key ((p.1 + p.2) / 2))) 90#32 = BitVec.ofBool (decide (90 ≤ Ranking.count key ((p.1 + p.2) / 2))) :=
    sge_small _ 90 (by omega) (by omega)
  rw [hc]
  unfold step Scalar.select
  by_cases hk : 90 ≤ Ranking.count key ((p.1 + p.2) / 2) <;> simp [hk]

/-- After `d` of the 26 steps the kernel holds the words of a bracket with `26 - d` steps to go. -/
theorem bisect_steps (v : Vec F S2048x1 .i32) (key : Fin 2048 → ℕ) (hv : ∀ c : Fin 2048, v (ix2 c 0) = BitVec.ofNat 32 (key c)) (hkey : ∀ c, key c < 2 ^ 26)
    {ι : Type} (l : List ι) (d : ℕ) (hd : d + l.length = 26) (p : ℕ × ℕ) (hp : Bracket key 90 (26 - d) p) (hb : p.2 ≤ 2 ^ 26) :
    ∃ q : ℕ × ℕ, l.foldl (fun acc _ => halve v acc) (BitVec.ofNat 32 p.1, BitVec.ofNat 32 p.2) = (BitVec.ofNat 32 q.1, BitVec.ofNat 32 q.2)
      ∧ Bracket key 90 0 q ∧ q.2 ≤ 2 ^ 26 := by
  induction l generalizing d p with
  | nil =>
    rw [List.length_nil] at hd
    exact ⟨p, rfl, by rw [show 26 - d = 0 by omega] at hp; exact hp, hb⟩
  | cons x l ih =>
    rw [List.length_cons] at hd
    have e : 26 - d = (26 - (d + 1)) + 1 := by omega
    rw [e] at hp
    have hs : (step key 90 p).2 ≤ 2 ^ 26 := by
      have h3 := hp.2.2
      have h4 := Nat.zero_le (2 ^ (26 - (d + 1)))
      rw [pow_succ] at h3
      unfold step
      split <;> dsimp only <;> omega
    rw [List.foldl_cons, halve_small v key hv (fun c => (hkey c).trans (by norm_num)) p (by
      have h3 : p.1 ≤ p.2 := by rw [hp.2.2]; exact Nat.le_add_right _ _
      show p.1 + p.2 < 2147483648
      omega)]
    exact ih (d + 1) (by omega) (step key 90 p) (bracket_step key 90 _ p hp) hs

/-- The bisection's threshold: the word of a number that at least 90 keys reach and fewer than 90 exceed. -/
theorem bisect_threshold (v : Vec F S2048x1 .i32) (key : Fin 2048 → ℕ) (hv : ∀ c : Fin 2048, v (ix2 c 0) = BitVec.ofNat 32 (key c)) (hkey : ∀ c, key c < 2 ^ 26) :
    ∃ t : ℕ, (bisect v).1 = BitVec.ofNat 32 t ∧ t < 2 ^ 26 ∧ 90 ≤ Ranking.count key t ∧ Ranking.count key (t + 1) < 90 := by
  have hlen : (List.finRange k0_t2_loop.trips).length = 26 := by rw [List.length_finRange]; decide
  obtain ⟨q, e, ⟨h1, h2, h3⟩, h4⟩ := bisect_steps v key hv hkey (List.finRange k0_t2_loop.trips) 0 (by omega) (0, 2 ^ 26)
    (bracket_start key 90 26 (by norm_num) (by norm_num) hkey) le_rfl
  rw [pow_zero] at h3
  refine ⟨q.1, ?_, by omega, h1, h3 ▸ h2⟩
  unfold bisect
  rw [Scf.fold_eq]
  exact congrArg Prod.fst e

end Cert.Proof.KernelIdeal
-- ==== Proof.TopRank.lean ====
/-
  The first positions of a stable sort by decreasing score: the positions that few others are ranked ahead of.
-/
module

public import proofs.«01_k».proof.Proof.Ranking

@[expose] public section

namespace Cert.Proof.Ranking

open Idealize.ShloMosaic

variable {n : ℕ}

/-- Two relations that agree from later positions to earlier ones sort an increasing list alike. -/
theorem stableSort_of_later (R T : Fin n → Fin n → Bool) (h : ∀ a b, a < b → R b a = T b a) (l : List (Fin n)) (hl : l.Pairwise (· < ·)) :
    stableSort R l = stableSort T l := by
  induction l with
  | nil => rfl
  | cons a l ih =>
    rw [List.pairwise_cons] at hl
    unfold stableSort
    rw [ih hl.2]
    exact insertBefore_congr R T a _ fun b hb => h a b (hl.1 b ((perm_stableSort T l).mem_iff.mp hb))

/-- So they sort all the positions alike. -/
theorem sortedFrom_of_later (R T : Fin n → Fin n → Bool) (h : ∀ a b, a < b → R b a = T b a) : sortedFrom R = sortedFrom T := by
  funext k
  unfold sortedFrom
  have e : sortPositions n R = sortPositions n T := stableSort_of_later R T h _ (List.pairwise_lt_finRange n)
  rw [List.get_of_eq e]
  rfl

/-- Ranking ahead is a strict total order. -/
theorem ahead_strictTotal (score : Fin n → ℕ) : StrictTotalBefore fun a b : Fin n => decide (ahead score a b) where
  irrefl a := by simp [ahead]
  trans a b c hab hbc := by
    simp only [ahead, decide_eq_true_eq, Fin.lt_def] at hab hbc ⊢
    omega
  total a b hab := by
    have hv : a.val ≠ b.val := fun e => hab (Fin.ext e)
    simp only [ahead, decide_eq_true_eq, Fin.lt_def]
    omega

/-- Of two sorted positions the earlier one is ranked ahead. -/
theorem sorted_ahead (score : Fin n → ℕ) (i j : Fin n) (hij : i < j) :
    ahead score (sortedFrom (fun a b => decide (ahead score a b)) i) (sortedFrom (fun a b => decide (ahead score a b)) j) := by
  have hT := ahead_strictTotal score
  have hno := sortedFrom_noInversion (fun a b => decide (ahead score a b)) (fun a b => decide (ahead score a b)) hT.asymm
    (fun _ _ h => h) (fun a b c hab hbc => by
      simp only [ahead, decide_eq_false_iff_not, Fin.lt_def] at hab hbc ⊢
      omega) i j hij
  rcases hT.total _ _ (fun e => absurd (sortedFrom_injective _ e) (ne_of_lt hij)) with h | h
  · simpa using h
  · rw [h] at hno; exact absurd hno (by decide)

/-- The position sorted to `k` has exactly `k` positions ranked ahead of it. -/
theorem rank_sorted (score : Fin n → ℕ) (k : Fin n) : rank score (sortedFrom (fun a b => decide (ahead score a b)) k) = k.val := by
  have e : (Finset.univ.filter fun a => ahead score a (sortedFrom (fun a b => decide (ahead score a b)) k))
      = (Finset.Iio k).map ⟨sortedFrom (fun a b => decide (ahead score a b)), sortedFrom_injective _⟩ := by
    ext a
    obtain ⟨i, rfl⟩ := sortedFrom_surjective (fun a b => decide (ahead score a b)) a
    simp only [Finset.mem_filter, Finset.mem_univ, true_and, Finset.mem_map, Finset.mem_Iio, Function.Embedding.coeFn_mk]
    constructor
    · intro h
      refine ⟨i, ?_, rfl⟩
      by_contra hik
      rcases lt_or_eq_of_le (not_lt.mp hik) with hlt | rfl
      · have h' := (ahead_strictTotal score).asymm _ _ (decide_eq_true (sorted_ahead score k i hlt))
        exact absurd h (of_decide_eq_false h')
      · exact absurd h (of_decide_eq_false ((ahead_strictTotal score).irrefl _))
    · rintro ⟨j, hj, e⟩
      rw [← sortedFrom_injective _ e]
      exact sorted_ahead score j k hj
  unfold rank
  rw [e, Finset.card_map, Fin.card_Iio]

/-- A stable sort by decreasing score puts at `k` the position with `k` ranked ahead of it. -/
theorem rank_sortedFrom (score : Fin n → ℕ) (R : Fin n → Fin n → Bool) (hR : ∀ a b, R a b = decide (score b < score a)) (k : Fin n) :
    rank score (sortedFrom R k) = k.val := by
  rw [sortedFrom_of_later R (fun a b => decide (ahead score a b)) fun a b hab => by
    rw [hR]
    refine decide_eq_decide.mpr ⟨Or.inl, ?_⟩
    rintro (h | ⟨-, h⟩)
    · exact h
    · exact absurd h (not_lt.mpr hab.le)]
  exact rank_sorted score k

/-- Every position with fewer than `k` ranked ahead is among the first `k` sorted. -/
theorem exists_sortedFrom (score : Fin n → ℕ) (R : Fin n → Fin n → Bool) (hR : ∀ a b, R a b = decide (score b < score a)) (c : Fin n) :
    ∃ k : Fin n, sortedFrom R k = c ∧ k.val = rank score c := by
  obtain ⟨k, rfl⟩ := sortedFrom_surjective R c
  exact ⟨k, rfl, (rank_sortedFrom score R hR k).symm⟩

end Cert.Proof.Ranking
-- ==== Proof.Active.lean ====
/-
  Which columns are active over plain functions: the 90 that come first by score, ties going to the lower column. Both
  programs give 1 at an active column and 0 elsewhere, at each of the column's 32 cells.
-/
module

public import proofs.«01_k».proof.Proof.TopRank
public import proofs.«01_k».proof.Proof.Overlap

@[expose] public section

noncomputable section

namespace Cert.Proof.Overlap

open Idealize.ShloMosaic
open Cert.Proof.Ranking

/-- The bit that a column is one of the first 90. -/
def first90 (s : Fin 2048 → ℕ) (n : Fin 2048) : BitVec 1 := BitVec.ofBool (decide (rank s n < 90))

/-- 1 at an active column and 0 elsewhere. -/
def active (x : Fin 16384 → BitVec 32) (p : Fin 2048 → Fin 16384 → EReal) (boost : Fin 2048 → EReal) (n : Fin 2048) : EReal :=
  bit (first90 (score x p boost) n)

/-- An active column holds 1. -/
theorem active_one (x : Fin 16384 → BitVec 32) (p : Fin 2048 → Fin 16384 → EReal) (boost : Fin 2048 → EReal) (n : Fin 2048)
    (h : rank (score x p boost) n < 90) : active x p boost n = 1 := by
  unfold active first90 bit
  rw [decide_eq_true h]
  exact congrArg ((↑·) : ℝ → EReal) Nat.cast_one

/-- Another column holds 0. -/
theorem active_zero (x : Fin 16384 → BitVec 32) (p : Fin 2048 → Fin 16384 → EReal) (boost : Fin 2048 → EReal) (n : Fin 2048)
    (h : ¬ rank (score x p boost) n < 90) : active x p boost n = 0 := by
  unfold active first90 bit
  rw [decide_eq_false h]
  exact congrArg ((↑·) : ℝ → EReal) Nat.cast_zero

end Cert.Proof.Overlap
-- ==== Proof.IdealValue.lean ====
/-
  The value the idealized kernel leaves: at each cell of a column, 1 when the column is active and 0 otherwise; and the
  second result is the constant 1.
-/
module

public import proofs.«01_k».proof.Proof.IdealFrame
public import proofs.«01_k».proof.Proof.IdealLoads
public import proofs.«01_k».proof.Proof.IdealBisect
public import proofs.«01_k».proof.Proof.Active
public import Idealize.ShloMosaic.Lib.Claim
public import Idealize.ShloMosaic.Lib.VecWindow
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Rounds
open Cert.Proof.Ranking Cert.Proof.Overlap

variable (m : (ℓ : Loc nD τ sig) → Buf (Elt Ideal) ℓ) (c : Dev nD) (t : Fin cfg0.N)

/-- The inputs over plain indices. -/
def inputs (j : Fin 16384) : BitVec 32 := m ((c : Thread nD τ).loc main_arg0) (ix1 j)
/-- The permanences. -/
def perms (n : Fin 2048) (j : Fin 16384) : EReal := m ((c : Thread nD τ).loc main_arg1) (ix2 n j)
/-- The boosts. -/
def boosts (n : Fin 2048) : EReal := m ((c : Thread nD τ).loc main_arg2) (ix1 n)

/-- Both staged windows lie at the origin of their arrays. -/
theorem idx : ∀ t : Fin cfg0.N, win0_0.index t = ![0, 0] ∧ win0_1.index t = ![0, 0] ∧ win0_2.index t = ![0, 0] :=
  (by decide +kernel : ∀ t : Fin grid0.N, _)

/-- The staged input is the input with a leading axis of one. -/
theorem V_input : V m c main_call0_v0 = shapeCast S1x16384 (m ((c : Thread nD τ).loc main_arg0)) shapeCasts_S16384_S1x16384 := rfl

/-- The staged boost is the boost with a trailing axis of one. -/
theorem V_boost : V m c main_call0_v1 = shapeCast S2048x1 (m ((c : Thread nD τ).loc main_arg2)) shapeCasts_S2048_S2048x1 := rfl

/-- The staged input at a column. -/
theorem input_at (j : Fin 16384) : iblk m c 0 t (ix2 0 j) = inputs m c j := by
  show V m c main_call0_v0 ((win0_0.blk t).view.emb (ix2 0 j)) = _
  have e : (win0_0.blk t).view.emb (ix2 0 j) = ix2 0 j := by blk_ext [idx t]
  rw [e, V_input]
  unfold inputs
  generalize m ((c : Thread nD τ).loc main_arg0) = X
  exact shapeCast_apply (X : S16384.Idx → BitVec 32) shapeCasts_S16384_S1x16384 (ix2 0 j) (ix1 j) (by
    show (S16384.rowMajor (ix1 j)).val = _
    rw [Shape.rowMajor_val_two, Shape.rowMajor_val_one]
    show j.val = 0 * 16384 + j.val
    omega)

/-- The staged boost at a row. -/
theorem boost_at (n : Fin 2048) : iblk m c 1 t (ix2 n 0) = boosts m c n := by
  show V m c main_call0_v1 ((win0_1.blk t).view.emb (ix2 n 0)) = _
  have e : (win0_1.blk t).view.emb (ix2 n 0) = ix2 n 0 := by blk_ext [idx t]
  rw [e, V_boost]
  unfold boosts
  pointwise

/-- The mask at a column is the bit that the input is on. -/
theorem mask_at (j : Fin 16384) : maskOf c (st0_0 t) (xAt m c t) (ix2 0 j) = bit (isOn (inputs m c j)) := by
  have e : (st0_0 t).view.readAt (Elt Ideal) (Rect.unit (s := S1x16384) ![0, 0] S1x16384.size inb_S1x16384_S1x16384_0_0).toLoadRect
      (xAt m c t) = iblk m c 0 t := View.readAt_rep_full _ _ _
  show k0_pay12 _ (ix2 0 j) = _
  rw [e]
  unfold k0_pay12
  rw [shapeCast_self]
  show (FloatOps.sitofp .f32 ((IntOp.cmpi .ne (iblk m c 0 t (ix2 0 j)) 0#32).setWidth 32) : Ideal .f32) = _
  rw [sitofp_widened, input_at]
  rfl

/-- The keys are the words of the packed keys. -/
theorem keys_at (h01 : ∀ n, boosts m c n = 0 ∨ boosts m c n = 1) (n : Fin 2048) :
    keysOf m c t (ix2 n 0) = BitVec.ofNat 32 (packed (score (inputs m c) (perms m c) (boosts m c)) n) := by
  refine keyVec_at c _ _ _ _ (inputs m c) (perms m c) (boosts m c) (mask_at m c t) (fun n j => ?_) (fun n => ?_) h01 n
  · rw [V_main_arg1]; rfl
  · rw [View.read_rep]; exact boost_at m c t n

/-- What the body leaves in a cell of a column: 1 when the column is active, 0 otherwise. -/
theorem outAt_at (h01 : ∀ n, boosts m c n = 0 ∨ boosts m c n = 1) (n : Fin 2048) (q : Fin 32) :
    outAt m c t (ix2 n q) = active (inputs m c) (perms m c) (boosts m c) n := by
  have hk := keys_at m c t h01
  unfold outAt
  generalize keysOf m c t = v at hk ⊢
  obtain ⟨T, hT, hT26, h1, h2⟩ := bisect_threshold v _ hk (packed_lt _ _ _)
  rw [hT]
  have e : k0_pay3 (F := Ideal) v (BitVec.ofNat 32 T) (ix2 n q) = FloatOps.sitofp .f32 ((IntOp.cmpi .sge (v (ix2 n 0)) (BitVec.ofNat 32 T)).setWidth 32) := by
    pointwise [k0_pay3]
  have hn := packed_lt (inputs m c) (perms m c) (boosts m c) n
  rw [e, sitofp_widened, hk, sge_small _ _ (hn.trans (by norm_num)) (hT26.trans (by norm_num))]
  unfold active first90
  rw [decide_eq_decide.mpr (threshold_iff _ 90 T h1 h2 n)]

/-- The result over 2048 columns and 32 cells. -/
def cells (i : S2048x32.Idx) : EReal := active (inputs m c) (perms m c) (boosts m c) (i 0)

/-- The region leaves it. -/
theorem region_leaves (h01 : ∀ n, boosts m c n = 0 ∨ boosts m c n = 1) :
    (dats m 0 c).arrAt 2 cfg0.N = cells m c := by
  refine (dats m 0 c).arrAt_eq_of_after_last 2 t0_0 (by decide +kernel) _ fun j => ?_
  blk_simp
  rw [after_w2]
  obtain ⟨n, q, rfl⟩ : ∃ n q, j = ix2 n q := ⟨j 0, j 1, funext fun a => by fin_cases a <;> rfl⟩
  exact outAt_at m c t0_0 h01 n q

/-- The first result is what the region leaves, row after row. -/
theorem tail_v0 (h01 : ∀ n, boosts m c n = 0 ∨ boosts m c n = 1) :
    tail m c main_v0 = shapeCast S65536 (cells m c) shapeCasts_S2048x32_S65536 := by
  have h : Pipeline.withArrays (cfgs 0).spec c (V0 m c) (fun w => (dats m 0 c).arrAt w (cfgs 0).N) (Proc.devRef .tc main_call0_v2) = cells m c :=
    (Pipeline.withArrays_arr spec0 (by decide) c (V0 m c) _ 2).trans (region_leaves m c h01)
  unfold tail Pipeline.afterTail₀
  simp only [List.flatten_cons, List.flatten_nil, List.append_nil, List.cons_append, List.nil_append, StableHlo.after_cons, StableHlo.after_nil]
  rw [StableHlo.nullary_result_ne _ _ _ _ (by decide), ← h]
  rfl

/-- The second result is the constant 1. -/
theorem tail_cst : tail m c main_cst = constant (F := Ideal) S_ .f32 0x3F800000#32 := by
  unfold tail Pipeline.afterTail₀
  simp only [List.flatten_cons, List.flatten_nil, List.append_nil, List.cons_append, List.nil_append, StableHlo.after_cons, StableHlo.after_nil]
  exact StableHlo.nullary_result _ _ _ _

end Cert.Proof.KernelIdeal
-- ==== Proof.RefValue.lean ====
/-
  The value the reference computes: it sorts the scores, takes the 90 columns that come first and writes 1 at each; so a
  column holds 1 when it is active and 0 otherwise, at each of its 32 cells.
-/
module

public import proofs.«01_k».proof.Proof.Gen.ReferenceIdeal.Read
public import proofs.«01_k».proof.Proof.Active
public import Idealize.ShloMosaic.Lib.Routing.OpsSet
public import Idealize.ShloMosaic.Lib.IdealHost
public import Idealize.ShloMosaic.Lib.Pipeline.ValueKit

@[expose] public section

set_option maxRecDepth 16384

noncomputable section

namespace Cert.Proof.ReferenceIdeal

open Cert.ReferenceIdeal Cert.ReferenceIdeal.Gen Cert.ReferenceIdeal.Read
open Idealize.ShloMosaic
open Cert.Proof.Ranking Cert.Proof.Overlap

/-- Place `a` of the one row that the sort sees. -/
def onRow (J : S2048.Idx) (a : Fin 2048) : S2048.Idx := J.along 0 a

/-- It is place `a` itself. -/
theorem onRow_eq (J : S2048.Idx) : onRow J = fun a => ix1 a := funext fun a => funext fun d => by
  fin_cases d
  rfl

/-- The indices of the first 90 places: in place `k` stands the column that the sort puts there. -/
theorem topK_at (gt : EReal → EReal → BitVec 1) (y : S2048.Idx → EReal) (k : Fin 90) :
    (Host.topK S90 0 gt y sliceFits_S2048_S90).2 (ix1 k)
      = BitVec.ofNat 32 (sortedFrom (fun a b : Fin 2048 => gt (y (ix1 a)) (y (ix1 b)) == 1#1) (k.castLE (by decide))).val := by
  obtain ⟨J, q, hq, e⟩ : ∃ (J : S2048.Idx) (q : Fin 2048), q = k.castLE (by decide) ∧ (Host.topK S90 0 gt y sliceFits_S2048_S90).2 (ix1 k)
      = iotaInDim S2048 32 0 (onRow J (sortedFrom (fun a b : Fin 2048 => gt (y (onRow J a)) (y (onRow J b)) == 1#1) q)) :=
    ⟨_, _, Fin.ext (Nat.zero_add _), rfl⟩
  rw [e, onRow_eq, hq]
  rfl

section

variable (x0 : (⟨S16384, .i32⟩ : BufTy).Contents (Elt Ideal)) (x1 : (⟨S2048x16384, .f32⟩ : BufTy).Contents (Elt Ideal))
  (x2 : (⟨S2048, .f32⟩ : BufTy).Contents (Elt Ideal))

/-- The inputs over plain indices. -/
def inputs (j : Fin 16384) : BitVec 32 := x0 (ix1 j)
/-- The permanences. -/
def perms (n : Fin 2048) (j : Fin 16384) : EReal := x1 (ix2 n j)
/-- The boosts. -/
def boosts (n : Fin 2048) : EReal := x2 (ix1 n)

/-- The score of each column. -/
abbrev scores (n : Fin 2048) : ℕ := score (inputs x0) (perms x1) (boosts x2) n

/-- The overlap times the boost is the score. -/
theorem v7_at (h01 : ∀ n, boosts x2 n = 0 ∨ boosts x2 n = 1) (n : Fin 2048) :
    val_main_v7 (F := Ideal) x0 x1 x2 (ix1 n) = ((scores x0 x1 x2 n : ℝ) : EReal) := by
  rw [val_main_v7_apply, val_main_v6_apply]
  have e1 : ∀ k : Fin 16384, val_main_v5 (F := Ideal) x1 (lidx_main_v6 (ix1 n) k) = bit (reaches (perms x1 n k)) := fun k => by
    rw [val_main_v5_apply, val_main_v4_apply, val_main_v3_apply, val_main_cst_apply, uitofp_bit]
    have e : lidx_main_v6 (ix1 n) k = ix2 n k := funext fun a => by fin_cases a <;> rfl
    rw [e]
    rfl
  have e2 : ∀ k : Fin 16384, val_main_v2 (F := Ideal) x0 (ridx_main_v6 (ix1 n) k) = bit (isOn (inputs x0 k)) := fun k => by
    rw [val_main_v2_apply, val_main_v1_apply, val_main_v0_apply, val_main_c_apply, uitofp_bit]
    have e : ridx_main_v6 (ix1 n) k = ix1 k := funext fun a => by fin_cases a; rfl
    rw [e]
    rfl
  refine Eq.trans ?_ (sum_eq_score (inputs x0) (perms x1) (boosts x2) n (h01 n))
  exact congrArg (· * boosts x2 n) (Finset.sum_congr rfl fun k _ => congrArg₂ (· * ·) (e1 k) (e2 k))

/-- Which of two columns has the greater score, as the sort asks it. -/
def greater (a b : Fin 2048) : Bool :=
  (FloatOps.cmpfTotal (F := Ideal) (φ := .f32) .gt (val_main_v7 (F := Ideal) x0 x1 x2 (ix1 a)) (val_main_v7 (F := Ideal) x0 x1 x2 (ix1 b))) == 1#1

/-- It compares the scores as whole numbers. -/
theorem greater_eq (h01 : ∀ n, boosts x2 n = 0 ∨ boosts x2 n = 1) (a b : Fin 2048) :
    greater x0 x1 x2 a b = decide (scores x0 x1 x2 b < scores x0 x1 x2 a) := by
  unfold greater
  rw [v7_at x0 x1 x2 h01, v7_at x0 x1 x2 h01]
  generalize scores x0 x1 x2 a = u
  generalize scores x0 x1 x2 b = v
  show (BitVec.ofBool (decide (((v : ℝ) : EReal) < ((u : ℝ) : EReal))) == 1#1) = _
  have e : ((v : ℝ) : EReal) < ((u : ℝ) : EReal) ↔ v < u := by
    rw [EReal.coe_lt_coe_iff, Nat.cast_lt]
  rw [decide_eq_decide.mpr e]
  cases decide (v < u) <;> rfl

/-- The column in place `k` of the sort. -/
def place (k : Fin 90) : Fin 2048 := sortedFrom (greater x0 x1 x2) (k.castLE (by norm_num))

/-- The indices the reference takes are the columns in the first 90 places. -/
theorem indices_at (k : Fin 90) : val_main_indices (F := Ideal) x0 x1 x2 (ix1 k) = BitVec.ofNat 32 (place x0 x1 x2 k).val := by
  unfold val_main_indices place
  exact topK_at _ _ k

/-- No index is negative, so the reference takes each as it is. -/
theorem v14_at (k : Fin 90) : val_main_v14 (F := Ideal) x0 x1 x2 (ix2 k 0) = BitVec.ofNat 32 (place x0 x1 x2 k).val := by
  have e : idx_main_v14 (ix2 k 0) = ix1 k := funext fun a => by fin_cases a; rfl
  rw [val_main_v14_apply, e, val_main_v13_apply, val_main_v10_apply, val_main_v9_apply, val_main_c_1_apply, indices_at]
  refine Routing.wrap_of_lt _ _ ?_
  rw [BitVec.toNat_ofNat]
  have h := (place x0 x1 x2 k).isLt
  have h' := Nat.mod_le (place x0 x1 x2 k).val (2 ^ 32)
  omega

end

/-- Update `k` of the scatter lands at column `n` exactly when its index is `n`. -/
theorem lands (idx : IVec S90x1 32) (k : Fin 90) (n : Fin 2048) (g : ℕ) (hg : idx (ix2 k 0) = BitVec.ofNat 32 g) (hg' : g < 2048) :
    scatter_S2048_S90x1_S90_n_0_0_1.resultIdx? (ix1 k) idx = some (ix1 n) ↔ g = n.val := by
  have hw : scatter_S2048_S90x1_S90_n_0_0_1.window (ix1 k) 0 = 0 := by
    unfold ScatterDims.window
    rw [dif_neg (by decide)]
  have hs : scatter_S2048_S90x1_S90_n_0_0_1.start (ix1 k) idx 0 = (g : ℤ) := by
    have hi : scatter_S2048_S90x1_S90_n_0_0_1.siIdx (ix1 k) ⟨0, by decide⟩ = ix2 k 0 := funext fun b => by
      fin_cases b
      · rfl
      · rfl
    unfold ScatterDims.start
    rw [dif_pos (by decide)]
    show (idx (scatter_S2048_S90x1_S90_n_0_0_1.siIdx (ix1 k) ⟨0, by decide⟩)).toInt = _
    rw [hi, hg]
    exact WordCmp.toInt_ofNat_of_lt (by omega)
  rw [Routing.resultIdx?_eq_some]
  constructor
  · intro h
    have h0 := h 0
    rw [hs, hw] at h0
    change (g : ℤ) + ((0 : ℕ) : ℤ) = (n.val : ℤ) at h0
    omega
  · intro h a
    obtain rfl : a = 0 := Subsingleton.elim (α := Fin 1) _ _
    rw [hs, hw]
    show (g : ℤ) + ((0 : ℕ) : ℤ) = (n.val : ℤ)
    omega

section

variable (x0 : (⟨S16384, .i32⟩ : BufTy).Contents (Elt Ideal)) (x1 : (⟨S2048x16384, .f32⟩ : BufTy).Contents (Elt Ideal))
  (x2 : (⟨S2048, .f32⟩ : BufTy).Contents (Elt Ideal))

/-- The scatter leaves 1 at an active column and 0 elsewhere. -/
theorem v16_at (h01 : ∀ n, boosts x2 n = 0 ∨ boosts x2 n = 1) (n : Fin 2048) :
    val_main_v16 (F := Ideal) x0 x1 x2 (ix1 n) = active (inputs x0) (perms x1) (boosts x2) n := by
  have hland : ∀ k : Fin 90, scatter_S2048_S90x1_S90_n_0_0_1.resultIdx? (ix1 k) (val_main_v14 (F := Ideal) x0 x1 x2) = some (ix1 n) ↔ (place x0 x1 x2 k).val = n.val :=
    fun k => lands _ k n _ (v14_at x0 x1 x2 k) (place x0 x1 x2 k).isLt
  have hix : ∀ k : S90.Idx, k = ix1 (k 0) := fun k => funext fun a => by fin_cases a; rfl
  unfold val_main_v16
  by_cases h : rank (scores x0 x1 x2) n < 90
  · rw [active_one _ _ _ _ h]
    obtain ⟨q, e, hq⟩ := exists_sortedFrom (scores x0 x1 x2) (greater x0 x1 x2) (greater_eq x0 x1 x2 h01) n
    refine Routing.scatter_set_hit _ _ _ _ (ix1 n) 1 (fun k _ => ?_) (ix1 ⟨q.val, by omega⟩) ((hland _).mpr (congrArg Fin.val e))
    rw [val_main_v15_apply, val_main_cst_3_apply]
    exact Ideal.ofBits_one_f32
  · rw [active_zero _ _ _ _ h]
    rw [Routing.scatter_set_miss _ _ _ _ (ix1 n) fun k hk => ?_]
    · rw [val_main_v8_apply, val_main_cst_0_apply]
      exact Ideal.ofBits_zero_f32
    · rw [hix k] at hk
      have e := Fin.ext ((hland (k 0)).mp hk)
      have hr := rank_sortedFrom (scores x0 x1 x2) (greater x0 x1 x2) (greater_eq x0 x1 x2 h01) ((k 0).castLE (by norm_num))
      apply h
      rw [← e]
      exact lt_of_eq_of_lt hr (k 0).isLt

/-- Before its rows are joined the result holds at each cell what its column holds. -/
theorem v17_at (h01 : ∀ n, boosts x2 n = 0 ∨ boosts x2 n = 1) (i : S2048x32.Idx) :
    val_main_v17 (F := Ideal) x0 x1 x2 i = active (inputs x0) (perms x1) (boosts x2) (i 0) := by
  have e : idx_main_v17 i = ix1 (i 0) := funext fun a => by fin_cases a; rfl
  rw [val_main_v17_apply, e]
  exact v16_at x0 x1 x2 h01 (i 0)

end

end Cert.Proof.ReferenceIdeal
-- ==== Proof.PreBoost.lean ====
/-
  What the claim's precondition says: each boost is zero or one.
-/
module

public import proofs.«01_k».proof.Proof.Gen.Pre_boost_is_zero_or_one
public import Idealize.ShloMosaic.Lib.ReduceAll
public import Idealize.ShloMosaic.Lib.IdealHost
public import Idealize.ShloMosaic.Lib.ValueIdx

@[expose] public section

noncomputable section

namespace Cert.Proof.PreBoost

open Cert.Pre_boost_is_zero_or_one
open Idealize.ShloMosaic

/-- A bit of two comparisons for equality that is set says that one of them holds. -/
theorem eq_or_eq (a b d : EReal) (h : IntOp.ori (Ideal.cmp .oeq a b) (Ideal.cmp .oeq a d) = 1#1) : a = b ∨ a = d := by
  have h' : BitVec.ofBool (decide (a = b)) ||| BitVec.ofBool (decide (a = d)) = 1#1 := h
  by_cases e : a = b
  · exact Or.inl e
  · by_cases e' : a = d
    · exact Or.inr e'
    · rw [decide_eq_false e, decide_eq_false e'] at h'
      exact absurd h' (by decide)

/-- Where the precondition holds, each boost is zero or one. -/
theorem boost_zero_or_one (x : IVec S16384 32) (p : FVec Ideal S2048x16384 .f32) (boost : FVec Ideal S2048 .f32)
    (h : fn (F := Ideal) x p boost = fun _ => 1#1) (i : S2048.Idx) : (boost i : EReal) = 0 ∨ (boost i : EReal) = 1 := by
  have h0 := congrFun h (Shape.Idx.first Gen.h_S_)
  dsimp only [fn] at h0
  haveI : Subsingleton S_.Idx := ⟨fun a b => funext fun k => k.elim0⟩
  have h1 := Host.reduce_andi_all _ _ _ _ _ h0 i
  have h2 : IntOp.ori (Ideal.cmp .oeq (boost i) (Ideal.ofBits .f32 0x00000000#32)) (Ideal.cmp .oeq (boost i) (Ideal.ofBits .f32 0x3F800000#32)) = 1#1 := h1
  have h3 := eq_or_eq _ _ _ h2
  rwa [Ideal.ofBits_zero_f32, Ideal.ofBits_one_f32] at h3

end Cert.Proof.PreBoost
-- ==== Proof.lean ====
/-
  The claims of the certificate: the kernel as printed and its idealization end with every argument as it was and every
  semaphore at zero; so does the reference; the idealization keeps the kernel's launches; and at the ideal fields the
  two results of the kernel are those of the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_boost_is_zero_or_one
public import proofs.«01_k».proof.Proof.KernelFrame
public import proofs.«01_k».proof.Proof.IdealValue
public import proofs.«01_k».proof.Proof.RefValue
public import proofs.«01_k».proof.Proof.PreBoost
public import Idealize.ShloMosaic.Lib.Quiescent

@[expose] public section

noncomputable section

namespace Cert.Proof

open Idealize.ShloMosaic Idealize.ShloMosaic.TcCoe Idealize.SL.Sem

/-- The kernel as printed ends with its arguments unchanged and every semaphore at zero. -/
theorem kernel_frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) :=
  (θ_run _ _ _).mono (fun _ h => ⟨fun c => (h.1 c).2.2, h.2⟩) (Cert.Proof.Kernel.run m g)

/-- The idealized kernel ends with its arguments unchanged and every semaphore at zero. -/
theorem ideal_frame (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun _ h => ⟨fun c => (h.1 c).2.2, h.2⟩) (Cert.Proof.KernelIdeal.run m g)

/-- The reference ends with its arguments unchanged and, having no semaphore, with every semaphore at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2, sem_eq_zero_of_no_sems rfl r.2⟩) (Cert.ReferenceIdeal.Value.run m g)

/-- From equal arguments whose boosts are zeros and ones, the reference's first result is the kernel's. -/
theorem cells_eq (m : (ℓ : Loc Cert.KernelIdeal.nD Cert.KernelIdeal.τ Cert.KernelIdeal.sig) → Buf (Elt Ideal) ℓ) (c : Dev Cert.KernelIdeal.nD)
    (h01 : ∀ n, Cert.Proof.KernelIdeal.boosts m c n = 0 ∨ Cert.Proof.KernelIdeal.boosts m c n = 1) :
    Cert.ReferenceIdeal.Read.val_main_v18 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.Proof.KernelIdeal.tail m c Cert.KernelIdeal.main_v0 := by
  rw [Cert.Proof.KernelIdeal.tail_v0 m c h01]
  unfold Cert.ReferenceIdeal.Read.val_main_v18
  exact congrArg (fun y => shapeCast Cert.ReferenceIdeal.S65536 y Cert.ReferenceIdeal.Gen.shapeCasts_S2048x32_S65536)
    (funext fun i => Cert.Proof.ReferenceIdeal.v17_at _ _ _ h01 i)

/-- From equal arguments whose boosts are zeros and ones, the kernel's two results are the reference's. -/
theorem results_eq : Cert.algebraic_KernelIdeal_ReferenceIdeal_pre_boost_is_zero_or_one := by
  intro m g m' g' hpre hargs
  refine ⟨fun c => Cert.Proof.KernelIdeal.tail m c Cert.KernelIdeal.main_v0, fun c => Cert.Proof.KernelIdeal.tail m c Cert.KernelIdeal.main_cst,
    (θ_run _ _ _).mono (fun _ h => h.1) (Cert.Proof.KernelIdeal.run m g),
    (θ_run _ _ _).mono (fun r h c => ?_) (Cert.ReferenceIdeal.Value.run m' g')⟩
  have h01 : ∀ n, Cert.Proof.KernelIdeal.boosts m c n = 0 ∨ Cert.Proof.KernelIdeal.boosts m c n = 1 :=
    fun n => Cert.Proof.PreBoost.boost_zero_or_one _ _ _ (hpre c) (ix1 n)
  obtain ⟨e0, e1, ea⟩ := h c
  obtain ⟨a0, a1, a2⟩ := hargs c
  refine ⟨e0.trans ((Cert.ReferenceIdeal.Read.val_main_v18_eq _ _ _).trans ?_), e1.trans (Cert.Proof.KernelIdeal.tail_cst m c).symm, ea⟩
  rw [a0, a1, a2]
  exact cells_eq m c h01

/-- Everything the certificate claims. -/
theorem claim : Cert.Claim :=
  ⟨Cert.Kernel.Gen.facts, Cert.KernelIdeal.Gen.facts, Cert.ReferenceIdeal.Gen.facts, Cert.Pre_boost_is_zero_or_one.Gen.facts,
    fun m g _ => kernel_frame m g, fun m g _ => ideal_frame m g, fun m g _ => ideal_frame m g,
    fun m g _ => reference_frame m g, fun m g _ => reference_frame m g, trivial, results_eq⟩

end Cert.Proof

end
